-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale_log2e" .f32 0x3E0293EE#32 ((((Real.sqrt 128) * (Real.log 2))⁻¹ : ℝ) : EReal)

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = Layout.block ⟨3, ![1, 512, 1024]⟩ ⟨3, ![1, 2048, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = Layout.block ⟨3, ![1, 512, 1024]⟩ ⟨3, ![1, 2048, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v65) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S1x512x1024 : Shape := ⟨3, ![1, 512, 1024]⟩
abbrev S1024x1024 : Shape := ⟨2, ![1024, 1024]⟩
abbrev S1x2048x32x128 : Shape := ⟨4, ![1, 2048, 32, 128]⟩
abbrev S_ : Shape := ⟨0, ![]⟩

class Facts : Prop where
  bitsLt_bf16_f32 : FTy.bits .bf16 < FTy.bits .f32
  bcast_S_S1x512x1024 : S_.BroadcastsInDim S1x512x1024 (![] : Fin 0 → Fin S1x512x1024.rank)
  bcast_S_S1024x1024 : S_.BroadcastsInDim S1024x1024 (![] : Fin 0 → Fin S1024x1024.rank)
  bcast_S_S1x2048x32x128 : S_.BroadcastsInDim S1x2048x32x128 (![] : Fin 0 → Fin S1x2048x32x128.rank)

variable [Facts]

def fn {F : FTy → Type} [FloatOps F] (main_arg0 : FVec F S1x512x1024 .bf16) (main_arg1 : FVec F S1024x1024 .bf16) (main_arg2 : FVec F S1024x1024 .bf16) (main_arg3 : FVec F S1x2048x32x128 .bf16) (main_arg4 : FVec F S1x2048x32x128 .bf16) : IVec S1x512x1024 1 × IVec S1024x1024 1 × IVec S1x2048x32x128 1 :=
  let main_v0 : FVec F S1x512x1024 .f32 := (extf .f32 · bitsLt_bf16_f32) main_arg0
  let main_v1 : FVec F S1x512x1024 .f32 := Host.absf main_v0
  let main_cst : FVec F S_ .f32 := constant S_ .f32 0x7F800000#32
  let main_v2 : FVec F S1x512x1024 .f32 := broadcastInDim S1x512x1024 ![] bcast_S_S1x512x1024 main_cst
  let main_v3 : IVec S1x512x1024 1 := cmpf .olt main_v1 main_v2
  let main_v4 : FVec F S1024x1024 .f32 := (extf .f32 · bitsLt_bf16_f32) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_v8 : FVec F S1x2048x32x128 .f32 := (extf .f32 · bitsLt_bf16_f32) main_arg3
  let main_v9 : FVec F S1x2048x32x128 .f32 := Host.absf main_v8
  let main_cst_1 : FVec F S_ .f32 := constant S_ .f32 0x7F800000#32
  let main_v10 : FVec F S1x2048x32x128 .f32 := broadcastInDim S1x2048x32x128 ![] bcast_S_S1x2048x32x128 main_cst_1
  let main_v11 : IVec S1x2048x32x128 1 := cmpf .olt main_v9 main_v10
  (main_v3, main_v7, main_v11)
-- ==== Pre_scores_finite_ReferenceIdeal.lean ====
abbrev S1x2048x1024 : Shape := ⟨3, ![1, 2048, 1024]⟩
abbrev S1024x4096 : Shape := ⟨2, ![1024, 4096]⟩
abbrev S4096x1024 : Shape := ⟨2, ![4096, 1024]⟩
abbrev S1x2048x32x128 : Shape := ⟨4, ![1, 2048, 32, 128]⟩
abbrev S_ : Shape := ⟨0, ![]⟩

class Facts : Prop where
  bitsLt_bf16_f32 : FTy.bits .bf16 < FTy.bits .f32
  bcast_S_S1x2048x1024 : S_.BroadcastsInDim S1x2048x1024 (![] : Fin 0 → Fin S1x2048x1024.rank)
  bcast_S_S1024x4096 : S_.BroadcastsInDim S1024x4096 (![] : Fin 0 → Fin S1024x4096.rank)
  bcast_S_S1x2048x32x128 : S_.BroadcastsInDim S1x2048x32x128 (![] : Fin 0 → Fin S1x2048x32x128.rank)

variable [Facts]

def fn {F : FTy → Type} [FloatOps F] (main_arg0 : FVec F S1x2048x1024 .bf16) (main_arg1 : FVec F S1024x4096 .bf16) (main_arg2 : FVec F S4096x1024 .bf16) (main_arg3 : FVec F S1x2048x32x128 .bf16) (main_arg4 : FVec F S1x2048x32x128 .bf16) : IVec S1x2048x1024 1 × IVec S1024x4096 1 × IVec S1x2048x32x128 1 :=
  let main_v0 : FVec F S1x2048x1024 .f32 := (extf .f32 · bitsLt_bf16_f32) main_arg0
  let main_v1 : FVec F S1x2048x1024 .f32 := Host.absf main_v0
  let main_cst : FVec F S_ .f32 := constant S_ .f32 0x7F800000#32
  let main_v2 : FVec F S1x2048x1024 .f32 := broadcastInDim S1x2048x1024 ![] bcast_S_S1x2048x1024 main_cst
  let main_v3 : IVec S1x2048x1024 1 := cmpf .olt main_v1 main_v2
  let main_v4 : FVec F S1024x4096 .f32 := (extf .f32 · bitsLt_bf16_f32) main_arg1
  let main_v5 : FVec F S1024x4096 .f32 := Host.absf main_v4
  let main_cst_0 : FVec F S_ .f32 := constant S_ .f32 0x7F800000#32
  let main_v6 : FVec F S1024x4096 .f32 := broadcastInDim S1024x4096 ![] bcast_S_S1024x4096 main_cst_0
  let main_v7 : IVec S1024x4096 1 := cmpf .olt main_v5 main_v6
  let main_v8 : FVec F S1x2048x32x128 .f32 := (extf .f32 · bitsLt_bf16_f32) main_arg3
  let main_v9 : FVec F S1x2048x32x128 .f32 := Host.absf main_v8
  let main_cst_1 : FVec F S_ .f32 := constant S_ .f32 0x7F800000#32
  let main_v10 : FVec F S1x2048x32x128 .f32 := broadcastInDim S1x2048x32x128 ![] bcast_S_S1x2048x32x128 main_cst_1
  let main_v11 : IVec S1x2048x32x128 1 := cmpf .olt main_v9 main_v10
  (main_v3, main_v7, main_v11)
-- ==== Kernel.lean ====
abbrev S1x512x1024 : Shape := ⟨3, ![1, 512, 1024]⟩
abbrev S1024x1024 : Shape := ⟨2, ![1024, 1024]⟩
abbrev S1x2048x32x128 : Shape := ⟨4, ![1, 2048, 32, 128]⟩
abbrev S_ : Shape := ⟨0, ![]⟩
abbrev S512x1024 : Shape := ⟨2, ![512, 1024]⟩
abbrev S2048x32x128 : Shape := ⟨3, ![2048, 32, 128]⟩
abbrev S2048x8x128 : Shape := ⟨3, ![2048, 8, 128]⟩
abbrev S8x2048x128 : Shape := ⟨3, ![8, 2048, 128]⟩
abbrev S3x512x1024 : Shape := ⟨3, ![3, 512, 1024]⟩
abbrev S3 : Shape := ⟨1, ![3]⟩
abbrev S1 : Shape := ⟨1, ![1]⟩
abbrev S512x128 : Shape := ⟨2, ![512, 128]⟩
abbrev S1x2048x128 : Shape := ⟨3, ![1, 2048, 128]⟩
abbrev S2048x128 : Shape := ⟨2, ![2048, 128]⟩
abbrev S512x2048 : Shape := ⟨2, ![512, 2048]⟩
abbrev S512 : Shape := ⟨1, ![512]⟩
abbrev S512x1 : Shape := ⟨2, ![512, 1]⟩

abbrev nBuf : Space → Nat
  | .hbm => 38
  | .vmem => 9
  | .smem => 0
  | _ => 0

abbrev bufTy : (tb : Table) → Fin (tcTables nBuf tb) → BufTy
  | .hbm, ⟨0, _⟩ => ⟨S1x512x1024, .bf16⟩
  | .hbm, ⟨1, _⟩ => ⟨S1024x1024, .bf16⟩
  | .hbm, ⟨2, _⟩ => ⟨S1024x1024, .bf16⟩
  | .hbm, ⟨3, _⟩ => ⟨S1x2048x32x128, .bf16⟩
  | .hbm, ⟨4, _⟩ => ⟨S1x2048x32x128, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S512x1024, .bf16⟩
  | .hbm, ⟨12, _⟩ => ⟨S2048x32x128, .bf16⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S2048x8x128, .bf16⟩
  | .hbm, ⟨23, _⟩ => ⟨S2048x32x128, .bf16⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S2048x8x128, .bf16⟩
  | .hbm, ⟨34, _⟩ => ⟨S8x2048x128, .bf16⟩
  | .hbm, ⟨35, _⟩ => ⟨S8x2048x128, .bf16⟩
  | .hbm, ⟨36, _⟩ => ⟨S512x1024, .f32⟩
  | .hbm, ⟨37, _⟩ => ⟨S1x512x1024, .f32⟩
  | .local _ .vmem, ⟨0, _⟩ => ⟨S512x1024, .bf16⟩
  | .local _ .vmem, ⟨1, _⟩ => ⟨S1024x1024, .bf16⟩
  | .local _ .vmem, ⟨2, _⟩ => ⟨S1024x1024, .bf16⟩
  | .local _ .vmem, ⟨3, _⟩ => ⟨S8x2048x128, .bf16⟩
  | .local _ .vmem, ⟨4, _⟩ => ⟨S8x2048x128, .bf16⟩
  | .local _ .vmem, ⟨5, _⟩ => ⟨S512x1024, .f32⟩
  | .local _ .vmem, ⟨6, _⟩ => ⟨S3x512x1024, .bf16⟩
  | .local _ .vmem, ⟨7, _⟩ => ⟨S3x512x1024, .bf16⟩
  | .local _ .vmem, ⟨8, _⟩ => ⟨S3x512x1024, .bf16⟩
  | _, _ => ⟨S1x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_c_4 : Ref sig .tc := ⟨.hbm, 20, rfl⟩
abbrev main_c_5 : Ref sig .tc := ⟨.hbm, 21, rfl⟩
abbrev main_v11 : Ref sig .tc := ⟨.hbm, 22, rfl⟩
abbrev main_v12 : Ref sig .tc := ⟨.hbm, 23, rfl⟩
abbrev main_c_6 : Ref sig .tc := ⟨.hbm, 24, rfl⟩
abbrev main_v13 : Ref sig .tc := ⟨.hbm, 25, rfl⟩
abbrev main_c_7 : Ref sig .tc := ⟨.hbm, 26, rfl⟩
abbrev main_v14 : Ref sig .tc := ⟨.hbm, 27, rfl⟩
abbrev main_c_8 : Ref sig .tc := ⟨.hbm, 28, rfl⟩
abbrev main_v15 : Ref sig .tc := ⟨.hbm, 29, rfl⟩
abbrev main_v16 : Ref sig .tc := ⟨.hbm, 30, rfl⟩
abbrev main_c_9 : Ref sig .tc := ⟨.hbm, 31, rfl⟩
abbrev main_c_10 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_74 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c1_i32_73 : BitVec 32 := 1#32
  let v109 : BitVec 32 := Scalar.muli v53 c1_i32_73
  let v110 : BitVec 32 := Scalar.addi c0_i32_74 v109
  v110.toNat
def k0_dev5 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_35 : BitVec 32 := 2#32
  let v54 : BitVec 32 := Scalar.addi v2 c2_i32_35
  let c4_i32_36 : BitVec 32 := 4#32
  let c0_i32_37 : BitVec 32 := 0#32
  let v55 : BitVec 1 := Scalar.cmpi .eq c4_i32_36 c0_i32_37
  let c1_i32_38 : BitVec 32 := 1#32
  let v56 : BitVec 32 := Scalar.select v55 c1_i32_38 c4_i32_36
  let v57 : BitVec 32 := Scalar.remsi v54 v56
  let c0_i32_40 : BitVec 32 := 0#32
  let v59 : BitVec 1 := Scalar.cmpi .slt v57 c0_i32_40
  let c0_i32_41 : BitVec 32 := 0#32
  let v60 : BitVec 1 := Scalar.cmpi .slt v56 c0_i32_41
  let v61 : BitVec 1 := Scalar.xori v59 v60
  let c0_i32_39 : BitVec 32 := 0#32
  let v58 : BitVec 1 := Scalar.cmpi .ne v57 c0_i32_39
  let v62 : BitVec 1 := Scalar.andi v61 v58
  let v63 : BitVec 32 := Scalar.addi v57 v56
  let v64 : BitVec 32 := Scalar.select v62 v63 v57
  let c1_i32_80 : BitVec 32 := 1#32
  let v117 : BitVec 32 := Scalar.muli v64 c1_i32_80
  let v118 : BitVec 32 := Scalar.addi c0_i32_81 v117
  v118.toNat
def k0_dev6 (d0 : Dev nD) : Nat :=
  let c0_i32_88 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_42 : BitVec 32 := 3#32
  let v65 : BitVec 32 := Scalar.addi v2 c3_i32_42
  let c4_i32_43 : BitVec 32 := 4#32
  let c0_i32_44 : BitVec 32 := 0#32
  let v66 : BitVec 1 := Scalar.cmpi .eq c4_i32_43 c0_i32_44
  let c1_i32_45 : BitVec 32 := 1#32
  let v67 : BitVec 32 := Scalar.select v66 c1_i32_45 c4_i32_43
  let v68 : BitVec 32 := Scalar.remsi v65 v67
  let c0_i32_47 : BitVec 32 := 0#32
  let v70 : BitVec 1 := Scalar.cmpi .slt v68 c0_i32_47
  let c0_i32_48 : BitVec 32 := 0#32
  let v71 : BitVec 1 := Scalar.cmpi .slt v67 c0_i32_48
  let v72 : BitVec 1 := Scalar.xori v70 v71
  let c0_i32_46 : BitVec 32 := 0#32
  let v69 : BitVec 1 := Scalar.cmpi .ne v68 c0_i32_46
  let v73 : BitVec 1 := Scalar.andi v72 v69
  let v74 : BitVec 32 := Scalar.addi v68 v67
  let v75 : BitVec 32 := Scalar.select v73 v74 v68
  let c1_i32_87 : BitVec 32 := 1#32
  let v125 : BitVec 32 := Scalar.muli v75 c1_i32_87
  let v126 : BitVec 32 := Scalar.addi c0_i32_88 v125
  v126.toNat
def k0_dev7 (d0 : Dev nD) : Nat :=
  let c0_i32_262 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_49 : BitVec 32 := 1#32
  let v76 : BitVec 32 := Scalar.addi v2 c1_i32_49
  let c4_i32_50 : BitVec 32 := 4#32
  let c0_i32_51 : BitVec 32 := 0#32
  let v77 : BitVec 1 := Scalar.cmpi .eq c4_i32_50 c0_i32_51
  let c1_i32_52 : BitVec 32 := 1#32
  let v78 : BitVec 32 := Scalar.select v77 c1_i32_52 c4_i32_50
  let v79 : BitVec 32 := Scalar.remsi v76 v78
  let c0_i32_54 : BitVec 32 := 0#32
  let v81 : BitVec 1 := Scalar.cmpi .slt v79 c0_i32_54
  let c0_i32_55 : BitVec 32 := 0#32
  let v82 : BitVec 1 := Scalar.cmpi .slt v78 c0_i32_55
  let v83 : BitVec 1 := Scalar.xori v81 v82
  let c0_i32_53 : BitVec 32 := 0#32
  let v80 : BitVec 1 := Scalar.cmpi .ne v79 c0_i32_53
  let v84 : BitVec 1 := Scalar.andi v83 v80
  let v85 : BitVec 32 := Scalar.addi v79 v78
  let v86 : BitVec 32 := Scalar.select v84 v85 v79
  let c1_i32_261 : BitVec 32 := 1#32
  let v392 : BitVec 32 := Scalar.muli v86 c1_i32_261
  let v393 : BitVec 32 := Scalar.addi c0_i32_262 v392
  v393.toNat
def k0_dev8 (d0 : Dev nD) : Nat :=
  let c0_i32_364 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_63 : BitVec 32 := 3#32
  let v98 : BitVec 32 := Scalar.addi v2 c3_i32_63
  let c4_i32_64 : BitVec 32 := 4#32
  let c0_i32_65 : BitVec 32 := 0#32
  let v99 : BitVec 1 := Scalar.cmpi .eq c4_i32_64 c0_i32_65
  let c1_i32_66 : BitVec 32 := 1#32
  let v100 : BitVec 32 := Scalar.select v99 c1_i32_66 c4_i32_64
  let v101 : BitVec 32 := Scalar.remsi v98 v100
  let c0_i32_68 : BitVec 32 := 0#32
  let v103 : BitVec 1 := Scalar.cmpi .slt v101 c0_i32_68
  let c0_i32_69 : BitVec 32 := 0#32
  let v104 : BitVec 1 := Scalar.cmpi .slt v100 c0_i32_69
  let v105 : BitVec 1 := Scalar.xori v103 v104
  let c0_i32_67 : BitVec 32 := 0#32
  let v102 : BitVec 1 := Scalar.cmpi .ne v101 c0_i32_67
  let v106 : BitVec 1 := Scalar.andi v105 v102
  let v107 : BitVec 32 := Scalar.addi v101 v100
  let v108 : BitVec 32 := Scalar.select v106 v107 v101
  let c1_i32_363 : BitVec 32 := 1#32
  let v536 : BitVec 32 := Scalar.muli v108 c1_i32_363
  let v537 : BitVec 32 := Scalar.addi c0_i32_364 v536
  v537.toNat
def k0_dev9 (d0 : Dev nD) : Nat :=
  let c0_i32_466 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_56 : BitVec 32 := 2#32
  let v87 : BitVec 32 := Scalar.addi v2 c2_i32_56
  let c4_i32_57 : BitVec 32 := 4#32
  let c0_i32_58 : BitVec 32 := 0#32
  let v88 : BitVec 1 := Scalar.cmpi .eq c4_i32_57 c0_i32_58
  let c1_i32_59 : BitVec 32 := 1#32
  let v89 : BitVec 32 := Scalar.select v88 c1_i32_59 c4_i32_57
  let v90 : BitVec 32 := Scalar.remsi v87 v89
  let c0_i32_61 : BitVec 32 := 0#32
  let v92 : BitVec 1 := Scalar.cmpi .slt v90 c0_i32_61
  let c0_i32_62 : BitVec 32 := 0#32
  let v93 : BitVec 1 := Scalar.cmpi .slt v89 c0_i32_62
  let v94 : BitVec 1 := Scalar.xori v92 v93
  let c0_i32_60 : BitVec 32 := 0#32
  let v91 : BitVec 1 := Scalar.cmpi .ne v90 c0_i32_60
  let v95 : BitVec 1 := Scalar.andi v94 v91
  let v96 : BitVec 32 := Scalar.addi v90 v89
  let v97 : BitVec 32 := Scalar.select v95 v96 v90
  let c1_i32_465 : BitVec 32 := 1#32
  let v680 : BitVec 32 := Scalar.muli v97 c1_i32_465
  let v681 : BitVec 32 := Scalar.addi c0_i32_466 v680
  v681.toNat
abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "scale_log2e" => some ((((Real.sqrt 128) * (Real.log 2))⁻¹ : ℝ) : EReal)
  | _ => none
-- ==== ReferenceIdeal.lean ====
abbrev S1x2048x1024 : Shape := ⟨3, ![1, 2048, 1024]⟩
abbrev S1024x4096 : Shape := ⟨2, ![1024, 4096]⟩
abbrev S4096x1024 : Shape := ⟨2, ![4096, 1024]⟩
abbrev S1x2048x32x128 : Shape := ⟨4, ![1, 2048, 32, 128]⟩
abbrev S1x2048x4096 : Shape := ⟨3, ![1, 2048, 4096]⟩
abbrev S_ : Shape := ⟨0, ![]⟩
abbrev S1x32x2048x1 : Shape := ⟨4, ![1, 32, 2048, 1]⟩
abbrev S1x1024x32x128 : Shape := ⟨4, ![1, 1024, 32, 128]⟩
abbrev S1x32x2048x1024 : Shape := ⟨4, ![1, 32, 2048, 1024]⟩
abbrev S1x32x2048 : Shape := ⟨3, ![1, 32, 2048]⟩
abbrev S1x2048x32x1 : Shape := ⟨4, ![1, 2048, 32, 1]⟩
abbrev S1x32x128x2048 : Shape := ⟨4, ![1, 32, 128, 2048]⟩

abbrev nBuf : Space → Nat
  | .hbm => 80
  | .vmem => 0
  | .smem => 0
  | _ => 0

abbrev bufTy : (tb : Table) → Fin (tcTables nBuf tb) → BufTy
  | .hbm, ⟨0, _⟩ => ⟨S1x2048x1024, .bf16⟩
  | .hbm, ⟨1, _⟩ => ⟨S1024x4096, .bf16⟩
  | .hbm, ⟨2, _⟩ => ⟨S4096x1024, .bf16⟩
  | .hbm, ⟨3, _⟩ => ⟨S1x2048x32x128, .bf16⟩
  | .hbm, ⟨4, _⟩ => ⟨S1x2048x32x128, .bf16⟩
  | .hbm, ⟨5, _⟩ => ⟨S1x2048x4096, .f32⟩
  | .hbm, ⟨6, _⟩ => ⟨S1x2048x4096, .bf16⟩
  | .hbm, ⟨7, _⟩ => ⟨S1x2048x32x128, .bf16⟩
  | .hbm, ⟨8, _⟩ => ⟨S_, .f32⟩
  | .hbm, ⟨9, _⟩ => ⟨S1x2048x32x128, .f32⟩
  | .hbm, ⟨10, _⟩ => ⟨S_, .f32⟩
  | .hbm, ⟨11, _⟩ => ⟨S1x32x2048x1, .f32⟩
  | .hbm, ⟨12, _⟩ => ⟨S_, .f32⟩
  | .hbm, ⟨13, _⟩ => ⟨S1x32x2048x1, .f32⟩
  | .hbm, ⟨14, _⟩ => ⟨S1x1024x32x128, .bf16⟩
  | .hbm, ⟨15, _⟩ => ⟨S1x1024x32x128, .bf16⟩
  | .hbm, ⟨16, _⟩ => ⟨S1x32x2048x1024, .f32⟩
  | .hbm, ⟨17, _⟩ => ⟨S1x32x2048x1024, .bf16⟩
  | .hbm, ⟨18, _⟩ => ⟨S1x32x2048x1024, .f32⟩
  | .hbm, ⟨19, _⟩ => ⟨S_, .f32⟩
  | .hbm, ⟨20, _⟩ => ⟨S_, .f32⟩
  | .hbm, ⟨21, _⟩ => ⟨S1x32x2048x1024, .f32⟩
  | .hbm, ⟨22, _⟩ => ⟨S1x32x2048x1024, .f32⟩
  | .hbm, ⟨23, _⟩ => ⟨S_, .f32⟩
  | .hbm, ⟨24, _⟩ => ⟨S1x32x2048, .f32⟩
  | .hbm, ⟨25, _⟩ => ⟨S1x32x2048x1, .f32⟩
  | .hbm, ⟨26, _⟩ => ⟨S1x32x2048x1, .f32⟩
  | .hbm, ⟨27, _⟩ => ⟨S1x32x2048x1, .f32⟩
  | .hbm, ⟨28, _⟩ => ⟨S1x32x2048x1, .f32⟩
  | .hbm, ⟨29, _⟩ => ⟨S1x32x2048x1024, .f32⟩
  | .hbm, ⟨30, _⟩ => ⟨S1x32x2048x1024, .f32⟩
  | .hbm, ⟨31, _⟩ => ⟨S1x32x2048x1024, .f32⟩
  | .hbm, ⟨32, _⟩ => ⟨S1x32x2048x1, .f32⟩
  | .hbm, ⟨33, _⟩ => ⟨S_, .f32⟩
  | .hbm, ⟨34, _⟩ => ⟨S1x32x2048, .f32⟩
  | .hbm, ⟨35, _⟩ => ⟨S1x32x2048x1, .f32⟩
  | .hbm, ⟨36, _⟩ => ⟨S1x32x2048x1, .f32⟩
  | .hbm, ⟨37, _⟩ => ⟨S1x2048x32x1, .f32⟩
  | .hbm, ⟨38, _⟩ => ⟨S1x2048x32x128, .f32⟩
  | .hbm, ⟨39, _⟩ => ⟨S1x2048x32x128, .f32⟩
  | .hbm, ⟨40, _⟩ => ⟨S1x1024x32x128, .f32⟩
  | .hbm, ⟨41, _⟩ => ⟨S1x32x128x2048, .f32⟩
  | .hbm, ⟨42, _⟩ => ⟨S1x2048x32x128, .f32⟩
  | .hbm, ⟨43, _⟩ => ⟨S1x2048x32x128, .f32⟩
  | .hbm, ⟨44, _⟩ => ⟨S1x1024x32x128, .bf16⟩
  | .hbm, ⟨45, _⟩ => ⟨S1x1024x32x128, .bf16⟩
  | .hbm, ⟨46, _⟩ => ⟨S1x32x2048x1024, .f32⟩
  | .hbm, ⟨47, _⟩ => ⟨S1x32x2048x1024, .bf16⟩
  | .hbm, ⟨48, _⟩ => ⟨S1x32x2048x1024, .f32⟩
  | .hbm, ⟨49, _⟩ => ⟨S_, .f32⟩
  | .hbm, ⟨50, _⟩ => ⟨S_, .f32⟩
  | .hbm, ⟨51, _⟩ => ⟨S1x32x2048x1024, .f32⟩
  | .hbm, ⟨52, _⟩ => ⟨S1x32x2048x1024, .f32⟩
  | .hbm, ⟨53, _⟩ => ⟨S_, .f32⟩
  | .hbm, ⟨54, _⟩ => ⟨S1x32x2048, .f32⟩
  | .hbm, ⟨55, _⟩ => ⟨S1x32x2048x1, .f32⟩
  | .hbm, ⟨56, _⟩ => ⟨S1x32x2048x1, .f32⟩
  | .hbm, ⟨57, _⟩ => ⟨S1x32x2048x1, .f32⟩
  | .hbm, ⟨58, _⟩ => ⟨S1x32x2048x1, .f32⟩
  | .hbm, ⟨59, _⟩ => ⟨S1x32x2048x1024, .f32⟩
  | .hbm, ⟨60, _⟩ => ⟨S1x32x2048x1024, .f32⟩
  | .hbm, ⟨61, _⟩ => ⟨S1x32x2048x1024, .f32⟩
  | .hbm, ⟨62, _⟩ => ⟨S1x32x2048x1, .f32⟩
  | .hbm, ⟨63, _⟩ => ⟨S_, .f32⟩
  | .hbm, ⟨64, _⟩ => ⟨S1x32x2048, .f32⟩
  | .hbm, ⟨65, _⟩ => ⟨S1x32x2048x1, .f32⟩
  | .hbm, ⟨66, _⟩ => ⟨S1x32x2048x1, .f32⟩
  | .hbm, ⟨67, _⟩ => ⟨S1x2048x32x1, .f32⟩
  | .hbm, ⟨68, _⟩ => ⟨S1x2048x32x128, .f32⟩
  | .hbm, ⟨69, _⟩ => ⟨S1x2048x32x128, .f32⟩
  | .hbm, ⟨70, _⟩ => ⟨S1x1024x32x128, .f32⟩
  | .hbm, ⟨71, _⟩ => ⟨S1x32x128x2048, .f32⟩
  | .hbm, ⟨72, _⟩ => ⟨S1x2048x32x128, .f32⟩
  | .hbm, ⟨73, _⟩ => ⟨S1x2048x32x128, .f32⟩
  | .hbm, ⟨74, _⟩ => ⟨S1x2048x32x1, .f32⟩
  | .hbm, ⟨75, _⟩ => ⟨S1x2048x32x128, .f32⟩
  | .hbm, ⟨76, _⟩ => ⟨S1x2048x32x128, .f32⟩
  | .hbm, ⟨77, _⟩ => ⟨S1x2048x4096, .f32⟩
  | .hbm, ⟨78, _⟩ => ⟨S4096x1024, .f32⟩
  | .hbm, ⟨79, _⟩ => ⟨S1x2048x1024, .f32⟩
  | _, _ => ⟨S1x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩

abbrev nD : Nat := 1
abbrev τ : Topo := Topo.v7x

variable {F : FTy → Type} [FloatOps F]
-- ==== Proof.Same.lean ====
/- The kernel as printed and the kernel with its score factor named are one program once the name is read as the printed literal. -/
module

public import proofs.«01_k».proof.Proof.Gen.Kernel
public import proofs.«01_k».proof.Proof.Gen.KernelIdeal

@[expose] public section

set_option maxRecDepth 16384

noncomputable section

namespace Cert.Same

open Idealize.ShloMosaic

variable {F : FTy → Type} [FloatOps F]

/-- Read every named constant as the float its literal spells. -/
abbrev asWritten : Named F := ⟨fun _ _ {φ} bits => Scalar.ofBits φ bits⟩

attribute [local instance] asWritten in
theorem body_eq : @Cert.Kernel.cc0__body F _ _ = @Cert.KernelIdeal.cc0__body F _ asWritten _ := rfl

theorem main_eq : Cert.Kernel.main (F := F) = Cert.KernelIdeal.main (F := F) := rfl

theorem defs₀_eq : Cert.Kernel.defs₀ (F := F) = @Cert.KernelIdeal.defs₀ F _ asWritten _ := by
  refine congrArg Defs.onTc (funext fun l => ?_)
  match l with
  | ⟨0, _⟩ => exact funext fun ts => by cases ts; rfl
  | ⟨n + 1, h⟩ => exact absurd h (by omega)

theorem win_eq : Cert.Kernel.win0 = Cert.KernelIdeal.win0 := by
  funext w
  match w with
  | ⟨0, _⟩ | ⟨1, _⟩ | ⟨2, _⟩ | ⟨3, _⟩ | ⟨4, _⟩ | ⟨5, _⟩ => rfl
  | ⟨n + 6, h⟩ => exact absurd h (by omega)

theorem pcfgs_eq : Cert.Kernel.pcfgs (F := F) = Cert.KernelIdeal.pcfgs (F := F) := by with_unfolding_all rfl

theorem defs_eq : Cert.Kernel.defs (F := F) = @Cert.KernelIdeal.defs F _ asWritten _ := by
  unfold Cert.Kernel.defs Cert.KernelIdeal.defs
  rw [defs₀_eq]
  with_unfolding_all rfl

end Cert.Same
end
-- ==== Proof.Model.lean ====
/- What the kernel computes, in plain terms: one device's eight heads over one block of rows, and that the four printed blocks are this function. -/
module

public import proofs.«01_k».proof.Proof.Gen.KernelIdeal.Skeleton

@[expose] public section

set_option maxRecDepth 16384

noncomputable section

namespace Cert.Model

open Idealize.ShloMosaic Idealize.ShloMosaic.TcCoe
open Cert.KernelIdeal Cert.KernelIdeal.Gen

variable {F : FTy → Type} [FloatOps F] [Named F]

theorem head_inb (h : Fin 8) : ∀ a, (![h.val, 0, 0] : Fin 3 → Nat) a + S1x2048x128.size a ≤ S8x2048x128.size a := by
  revert h; decide

theorem head_slices (h : Fin 8) : S512x1024.Slices ![0, 128 * h.val] S512x128 := by
  revert h; decide

/-- Head `h` of a device's keys or values. -/
def row (k : Vec F S8x2048x128 .bf16) (h : Fin 8) : Vec F S1x2048x128 .bf16 :=
  fun i => k ((Rect.unit (s := S8x2048x128) ![h.val, 0, 0] S1x2048x128.size (head_inb h)).toLoadRect.idx i)

/-- The queries of a block of rows: its projection, scaled. -/
def query (x : Vec F S512x1024 .bf16) (wq : Vec F S1024x1024 .bf16) : FVec F S512x1024 .bf16 :=
  truncf .bf16
    (mulf
      (matmul dot_S512x1024_S1024x1024_S512x1024_1_0_0_1_n_n none x
        (shapeCast S1024x1024 wq shapeCasts_S1024x1024_S1024x1024) (constant S512x1024 .f32 0x00000000#32))
      (broadcast S512x1024 (Named.named κ "scale_log2e" 0x3E0293EE#32)))
    bitsLt_bf16_f32

/-- One head's attention of the queries `q` over that head's keys and values. -/
def head (q : FVec F S512x1024 .bf16) (k v : Vec F S8x2048x128 .bf16) (h : Fin 8) : FVec F S512x128 .bf16 :=
  k0_pay18 (extractStridedSlice S512x128 ![0, 128 * h.val] q (head_slices h)) (row k h) (row v h)

/-- The eight heads side by side, through the device's rows of the output weights. -/
def partialOut (x : Vec F S512x1024 .bf16) (wq : Vec F S1024x1024 .bf16) (k v : Vec F S8x2048x128 .bf16)
    (wo : Vec F S1024x1024 .bf16) : FVec F S512x1024 .f32 :=
  matmul dot_S512x1024_S1024x1024_S512x1024_1_0_0_1_n_n none
    (concatenate S512x1024 1
      [⟨S512x128, head (query x wq) k v 0⟩, ⟨S512x128, head (query x wq) k v 1⟩, ⟨S512x128, head (query x wq) k v 2⟩,
       ⟨S512x128, head (query x wq) k v 3⟩, ⟨S512x128, head (query x wq) k v 4⟩, ⟨S512x128, head (query x wq) k v 5⟩,
       ⟨S512x128, head (query x wq) k v 6⟩, ⟨S512x128, head (query x wq) k v 7⟩]
      concatenates_S512x128_S512x128_S512x128_S512x128_S512x128_S512x128_S512x128_S512x128_S512x1024_d1)
    (shapeCast S1024x1024 wo shapeCasts_S1024x1024_S1024x1024) (constant S512x1024 .f32 0x00000000#32)

/-- The contribution one device sends another: the partial product, rounded. -/
def sent (x : Vec F S512x1024 .bf16) (wq : Vec F S1024x1024 .bf16) (k v : Vec F S8x2048x128 .bf16)
    (wo : Vec F S1024x1024 .bf16) : FVec F S512x1024 .bf16 :=
  truncf .bf16 (partialOut x wq k v wo) bitsLt_bf16_f32

/-- A device's own contribution plus the three it is sent, added in landing order. -/
def total (own : FVec F S512x1024 .f32) (p0 p1 p2 : FVec F S512x1024 .bf16) : FVec F S512x1024 .f32 :=
  addf (addf (addf own (extf .f32 p0 bitsLt_bf16_f32)) (extf .f32 p1 bitsLt_bf16_f32)) (extf .f32 p2 bitsLt_bf16_f32)

theorem own_block (x : Vec F S512x1024 .bf16) (wq : Vec F S1024x1024 .bf16) (k v : Vec F S8x2048x128 .bf16)
    (wo : Vec F S1024x1024 .bf16) :
    k0_pay15 (k0_pay2 x wq (row k 0) (row v 0)) (k0_pay3 x wq (row k 1) (row v 1))
      (k0_pay5 (k0_pay4 x wq) (row k 2) (row v 2)) (k0_pay6 (k0_pay1 x wq) (row k 3) (row v 3))
      (k0_pay10 (k0_pay8 (k0_pay1 x wq) (row k 4)) (k0_pay9 (k0_pay1 x wq) (row k 4)) (row v 4))
      (k0_pay11 (k0_pay1 x wq) (row k 5) (row v 5)) (k0_pay12 (k0_pay1 x wq) (row k 6) (row v 6))
      (k0_pay13 (k0_pay1 x wq)) (k0_pay14 (row k 7)) (constant S512x2048 .f32 0x00000000#32) (row v 7) wo
      = partialOut (shapeCast S512x1024 x shapeCasts_S512x1024_S512x1024) wq k v wo := rfl

theorem first_block (x : Vec F S1x512x1024 .bf16) (wq : Vec F S1024x1024 .bf16) (k v : Vec F S8x2048x128 .bf16)
    (wo : Vec F S1024x1024 .bf16) :
    k0_pay31 (k0_pay18 (k0_pay17 x wq) (row k 0) (row v 0)) (k0_pay19 (k0_pay16 x wq) (row k 1) (row v 1))
      (k0_pay24 (k0_pay21 (k0_pay16 x wq) (row k 2)) (k0_pay22 (k0_pay16 x wq) (row k 2)) (k0_pay23 (row v 2)))
      (k0_pay25 (k0_pay16 x wq) (row k 3) (row v 3)) (k0_pay26 (k0_pay16 x wq) (row k 4) (row v 4))
      (k0_pay28 (k0_pay27 (k0_pay16 x wq) (row k 5)) (row v 5)) (k0_pay29 (k0_pay16 x wq) (row k 6) (row v 6))
      (k0_pay30 (k0_pay16 x wq) (row k 7) (row v 7)) wo
      = shapeCast S1x512x1024 (sent (shapeCast S512x1024 x shapeCasts_S1x512x1024_S512x1024) wq k v wo)
          shapeCasts_S512x1024_S1x512x1024 := rfl

theorem second_block (x : Vec F S1x512x1024 .bf16) (wq : Vec F S1024x1024 .bf16) (k v : Vec F S8x2048x128 .bf16)
    (wo : Vec F S1024x1024 .bf16) (z : FVec F S512x1024 .f32) (hz : z = constant S512x1024 .f32 0x00000000#32) :
    k0_pay46 (k0_pay35 (k0_pay32 x) (k0_pay33 wq) z (row k 0) (row v 0))
      (k0_pay36 (k0_pay32 x) (k0_pay33 wq) z (row k 1) (row v 1))
      (k0_pay38 (k0_pay37 (k0_pay32 x) (k0_pay33 wq) z (row k 2)) (row v 2))
      (k0_pay39 (k0_pay34 (k0_pay32 x) (k0_pay33 wq) z) (row k 3) (row v 3))
      (k0_pay40 (k0_pay34 (k0_pay32 x) (k0_pay33 wq) z) (row k 4) (row v 4))
      (k0_pay41 (k0_pay34 (k0_pay32 x) (k0_pay33 wq) z) (row k 5) (row v 5))
      (k0_pay42 (k0_pay34 (k0_pay32 x) (k0_pay33 wq) z) (row k 6) (row v 6))
      (k0_pay44 (k0_pay34 (k0_pay32 x) (k0_pay33 wq) z) (row k 7))
      (k0_pay45 (k0_pay34 (k0_pay32 x) (k0_pay33 wq) z) (row k 7)) (row v 7) wo
      = shapeCast S1x512x1024 (sent (shapeCast S512x1024 x shapeCasts_S1x512x1024_S512x1024) wq k v wo)
          shapeCasts_S512x1024_S1x512x1024 := by subst hz; rfl

theorem third_block (x : Vec F S1x512x1024 .bf16) (wq : Vec F S1024x1024 .bf16) (k v : Vec F S8x2048x128 .bf16)
    (wo : Vec F S1024x1024 .bf16) :
    k0_pay59 (k0_pay48 x wq (row k 0) (row v 0)) (k0_pay49 x wq (row k 1) (row v 1))
      (k0_pay50 (k0_pay47 x wq) (row k 2) (row v 2)) (k0_pay51 (k0_pay47 x wq) (row k 3) (row v 3))
      (k0_pay55 (k0_pay53 (k0_pay47 x wq) (row k 4)) (k0_pay54 (k0_pay47 x wq) (row k 4)) (row v 4))
      (k0_pay56 (k0_pay47 x wq) (row k 5) (row v 5)) (k0_pay57 (k0_pay47 x wq) (row k 6) (row v 6))
      (k0_pay58 (k0_pay47 x wq)) (row k 7) (row v 7) wo
      = shapeCast S1x512x1024 (sent (shapeCast S512x1024 x shapeCasts_S1x512x1024_S512x1024) wq k v wo)
          shapeCasts_S512x1024_S1x512x1024 := rfl

theorem sum_block (own : Vec F S512x1024 .f32) (p0 p1 p2 : Vec F S1x512x1024 .bf16) :
    k0_pay62 (k0_pay60 own) (k0_pay61 p0) p1 p2
      = total (shapeCast S512x1024 own shapeCasts_S512x1024_S512x1024)
          (shapeCast S512x1024 p0 shapeCasts_S1x512x1024_S512x1024) (shapeCast S512x1024 p1 shapeCasts_S1x512x1024_S512x1024)
          (shapeCast S512x1024 p2 shapeCasts_S1x512x1024_S512x1024) := rfl

end Cert.Model
end
-- ==== Proof.Proto.lean ====
/- The exchange: who signals and copies onto which semaphore, how much, and what each arrival hands over. -/
module

public import proofs.«01_k».proof.Proof.Model
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.Exchange

open Cert.KernelIdeal Cert.KernelIdeal.Gen Cert.Model
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Devices -/

/-- The device `k + 1` places on. -/
def sh (k : Fin 3) (c : Dev nD) : Dev nD := ⟨(c.val + (k.val + 1)) % 4, Nat.mod_lt _ (by decide)⟩

/-- The device `k + 1` places back. -/
abbrev un (k : Fin 3) (c : Dev nD) : Dev nD := sh k.rev c

theorem un_sh (k : Fin 3) (c : Dev nD) : sh k.rev (sh k c) = c := by revert k c; decide
theorem sh_un (k : Fin 3) (c : Dev nD) : sh k (sh k.rev c) = c := by revert k c; decide

/-- Going `k + 1` places on permutes the devices. -/
def turn (k : Fin 3) : Dev nD ≃ Dev nD := ⟨sh k, sh k.rev, un_sh k, sh_un k⟩

theorem dev1_eq (c : Dev nD) : (⟨k0_dev1 c, k0_dev1_lt c⟩ : Dev nD) = sh 0 c := by revert c; decide
theorem dev2_eq (c : Dev nD) : (⟨k0_dev2 c, k0_dev2_lt c⟩ : Dev nD) = sh 1 c := by revert c; decide
theorem dev3_eq (c : Dev nD) : (⟨k0_dev3 c, k0_dev3_lt c⟩ : Dev nD) = sh 2 c := by revert c; decide
theorem dev4_eq (c : Dev nD) : (⟨k0_dev4 c, k0_dev4_lt c⟩ : Dev nD) = sh 0 c := by revert c; decide
theorem dev5_eq (c : Dev nD) : (⟨k0_dev5 c, k0_dev5_lt c⟩ : Dev nD) = sh 1 c := by revert c; decide
theorem dev6_eq (c : Dev nD) : (⟨k0_dev6 c, k0_dev6_lt c⟩ : Dev nD) = sh 2 c := by revert c; decide
theorem dev7_eq (c : Dev nD) : (⟨k0_dev7 c, k0_dev7_lt c⟩ : Dev nD) = sh 0 c := by revert c; decide
theorem dev8_eq (c : Dev nD) : (⟨k0_dev8 c, k0_dev8_lt c⟩ : Dev nD) = sh 2 c := by revert c; decide
theorem dev9_eq (c : Dev nD) : (⟨k0_dev9 c, k0_dev9_lt c⟩ : Dev nD) = sh 1 c := by revert c; decide

/-! ## Buffers and semaphores -/

abbrev xM : Memref sig .tc .vmem S512x1024 .bf16 := Memref.whole cc0_stg0_0
abbrev wqM : Memref sig .tc .vmem S1024x1024 .bf16 := Memref.whole cc0_stg1_0
abbrev woM : Memref sig .tc .vmem S1024x1024 .bf16 := Memref.whole cc0_stg2_0
abbrev kM : Memref sig .tc .vmem S8x2048x128 .bf16 := Memref.whole cc0_stg3_0
abbrev vM : Memref sig .tc .vmem S8x2048x128 .bf16 := Memref.whole cc0_stg4_0
abbrev oM : Memref sig .tc .vmem S512x1024 .f32 := Memref.whole cc0_stg5_0
/-- Where the other devices' rows land, where contributions are made ready, where contributions land. -/
abbrev gM : Memref sig .tc .vmem S3x512x1024 .bf16 := Memref.whole cc0_scratch0
abbrev sM : Memref sig .tc .vmem S3x512x1024 .bf16 := Memref.whole cc0_scratch1
abbrev rM : Memref sig .tc .vmem S3x512x1024 .bf16 := Memref.whole cc0_scratch2

theorem slot_inb (k : Fin 3) : ∀ a, (![k.val, 0, 0] : Fin 3 → Nat) a + S1x512x1024.size a ≤ S3x512x1024.size a := by
  revert k; decide

/-- The rectangle of slot `k`. -/
abbrev slotR (k : Fin 3) : Rect S3x512x1024 := Rect.unit (s := S3x512x1024) ![k.val, 0, 0] S1x512x1024.size (slot_inb k)

/-- Slot `k` of a three-slot buffer. -/
abbrev slot (M : Memref sig .tc .vmem S3x512x1024 .bf16) (k : Fin 3) : Memref sig .tc .vmem S512x1024 .bf16 :=
  (M.slice (slotR k) (fun _ => rfl)).squeeze S512x1024 squeezes_S1x512x1024_S512x1024

/-- The twelve transfer semaphores: rows sent, rows received, contributions sent, contributions received. -/
def csem (a : Fin 4) (k : Fin 3) : DmaSem sig :=
  ⟨6 + 3 * a.val + k.val, by revert a k; decide⟩

/-- Which of the twelve a semaphore is. -/
def dec (q : DmaSem sig) : Option (Fin 4 × Fin 3) :=
  if h : 6 ≤ q.val then some (⟨(q.val - 6) / 3, by revert q; decide⟩, ⟨(q.val - 6) % 3, Nat.mod_lt _ (by decide)⟩) else none

theorem dec_csem (a : Fin 4) (k : Fin 3) : dec (csem a k) = some (a, k) := by revert a k; decide
theorem csem_inj : Function.Injective (fun p : Fin 4 × Fin 3 => csem p.1 p.2) := by decide

abbrev barS : Sem sig := (SemArray.scalar (sig.barrier 0 rfl) : Sems sig S_).sem

abbrev bar (c : Dev nD) : GSem nD τ sig := ((c : Thread nD τ), .reg barS)
abbrev cell (c : Dev nD) (a : Fin 4) (k : Fin 3) : GSem nD τ sig := ((c : Thread nD τ), .dma (csem a k))

/-- The credit of one transferred block. -/
abbrev N : ℕ := (xM : Memref sig .tc .vmem S512x1024 .bf16).view.dmaCredit
theorem N_pos : 0 < N := View.dmaCredit_pos _ (by decide)

/-! ## Contents -/

/-- What every device's five input blocks hold. -/
structure Blocks (F : FTy → Type) where
  x : Dev nD → Vec F S512x1024 .bf16
  wq : Dev nD → Vec F S1024x1024 .bf16
  wo : Dev nD → Vec F S1024x1024 .bf16
  k : Dev nD → Vec F S8x2048x128 .bf16
  v : Dev nD → Vec F S8x2048x128 .bf16

variable (I : Blocks F)

/-- The contribution of device `d` to the rows of device `c`, before and after rounding. -/
def own (d c : Dev nD) : FVec F S512x1024 .f32 := partialOut (I.x c) (I.wq d) (I.k d) (I.v d) (I.wo d)
def give (d c : Dev nD) : FVec F S512x1024 .bf16 := sent (I.x c) (I.wq d) (I.k d) (I.v d) (I.wo d)

/-- What device `c` ends with. -/
def result (c : Dev nD) : FVec F S512x1024 .f32 :=
  total (own I c c) (give I (un 0 c) c) (give I (un 1 c) c) (give I (un 2 c) c)

/-- The shares of the own rows lent to the three outgoing copies; the fourth stays for reading. -/
def lent (k : Fin 3) : PosShare TreeShare :=
  match k with
  | 0 => fullShare.left.left
  | 1 => fullShare.left.right
  | 2 => fullShare.right.left

abbrev kept : PosShare TreeShare := fullShare.right.right

def pts (M : Memref sig .tc .vmem S512x1024 .bf16) (c : Dev nD) (q : PosShare TreeShare)
    (f : Buf (Elt F) (M.view.loc (c : Thread nD τ))) : sProp 𝕄 :=
  M.view.loc (c : Thread nD τ) ↦[M.view.set]{q} f

instance pts_storable (M : Memref sig .tc .vmem S512x1024 .bf16) (c : Dev nD) (q : PosShare TreeShare)
    (f : Buf (Elt F) (M.view.loc (c : Thread nD τ))) : BI.Storable (upEmb : UEmb _ 𝕄) (pts M c q f) := by
  unfold pts; infer_instance

/-- A slot at some contents. -/
def free (M : Memref sig .tc .vmem S3x512x1024 .bf16) (k : Fin 3) (c : Dev nD) : sProp 𝕄 :=
  iprop(∃ f, pts (slot M k) c fullShare f)

/-- A slot reading `X`. -/
def holds (M : Memref sig .tc .vmem S3x512x1024 .bf16) (k : Fin 3) (c : Dev nD) (X : FVec F S512x1024 .bf16) : sProp 𝕄 :=
  iprop(∃ f, ⌜(slot M k).view.read (Elt F) f = X⌝ ∗ pts (slot M k) c fullShare f)

instance free_storable (M : Memref sig .tc .vmem S3x512x1024 .bf16) (k : Fin 3) (c : Dev nD) :
    BI.Storable (upEmb : UEmb _ 𝕄) (free (F := F) M k c) := by unfold free; infer_instance

instance holds_storable (M : Memref sig .tc .vmem S3x512x1024 .bf16) (k : Fin 3) (c : Dev nD) (X : FVec F S512x1024 .bf16) :
    BI.Storable (upEmb : UEmb _ 𝕄) (holds M k c X) := by unfold holds; infer_instance

/-- The payment of duty `j` of device `c`'s barrier: the two slots `c` will write on the device `j + 1` places on. -/
def barPay (c : Dev nD) (j : Fin 3) : sProp 𝕄 :=
  iprop((free gM j (sh j c) ∗ free rM j (sh j c)) ∗ reached ER (cell (sh j c) 1 j) 0 ∗ reached ER (cell (sh j c) 3 j) 0)

/-- The payment of a transfer's duty. -/
def dmaPay (c : Dev nD) (a : Fin 4) (k : Fin 3) : sProp 𝕄 :=
  match a with
  | 0 => pts xM c (lent k) (I.x c)
  | 1 => holds gM k c (I.x (un k c))
  | 2 => free sM k c
  | 3 => holds rM k c (give I (un k c) c)

def semPay (c : Dev nD) (o : Option (Fin 4 × Fin 3)) : sProp 𝕄 :=
  match o with
  | some (a, k) => dmaPay I c a k
  | none => iprop(emp)

instance barPay_storable (c : Dev nD) (j : Fin 3) : BI.Storable (upEmb : UEmb _ 𝕄) (barPay (F := F) c j) := by
  unfold barPay; infer_instance

instance dmaPay_storable (c : Dev nD) (a : Fin 4) (k : Fin 3) : BI.Storable (upEmb : UEmb _ 𝕄) (dmaPay I c a k) := by
  unfold dmaPay; split <;> infer_instance

instance semPay_storable (c : Dev nD) (o : Option (Fin 4 × Fin 3)) : BI.Storable (upEmb : UEmb _ 𝕄) (semPay I c o) := by
  unfold semPay; split <;> infer_instance

/-! ## The schedule -/

def semDuties (s : SemLoc sig) : Finset (Fin 3) :=
  match s with
  | .reg _ => Finset.univ
  | .dma q => if (dec q).isSome then {0} else ∅

def semAmount (s : SemLoc sig) : ℕ :=
  match s with
  | .reg _ => 1
  | .dma _ => N

def locPay (c : Dev nD) (s : SemLoc sig) (d : Fin 3) : sProp 𝕄 :=
  match s with
  | .reg _ => barPay c d
  | .dma q => semPay I c (dec q)

instance locPay_storable (c : Dev nD) (s : SemLoc sig) (d : Fin 3) : BI.Storable (upEmb : UEmb _ 𝕄) (locPay I c s d) := by
  unfold locPay; split <;> infer_instance

/-- One round: three units on a barrier, one block on each transfer semaphore. -/
def plan : Rounds.Schedule (GSem nD τ sig) (Fin 3) 𝕄 where
  duties g r := if r = 0 ∧ g.1.2 = .tc then semDuties g.2 else ∅
  unitless _ := False
  amount g _ _ := semAmount g.2
  payload g _ d := locPay I g.1.1 g.2 d
  amount_pos g _ _ _ := by
    show 0 < semAmount g.2
    unfold semAmount; split
    · exact Nat.one_pos
    · exact N_pos

instance plan_storable (g : GSem nD τ sig) (r : ℕ) (d : Fin 3) :
    BI.Storable (upEmb : UEmb _ 𝕄) ((plan I).payload g r d) := by
  show BI.Storable _ (locPay I g.1.1 g.2 d); infer_instance

theorem duties_bar (c : Dev nD) : (plan I).duties (bar c) 0 = Finset.univ := by dsimp only [plan]; exact if_pos ⟨rfl, rfl⟩
theorem duties_cell (c : Dev nD) (a : Fin 4) (k : Fin 3) : (plan I).duties (cell c a k) 0 = {0} := by
  dsimp only [plan]; rw [if_pos ⟨rfl, rfl⟩]; unfold semDuties; dsimp only; rw [dec_csem]; rfl
theorem duties_later (g : GSem nD τ sig) : ∀ r, 1 ≤ r → (plan I).duties g r = ∅ :=
  fun r hr => by dsimp only [plan]; exact if_neg fun h => by omega

theorem payload_bar (c : Dev nD) (j : Fin 3) : (plan I).payload (bar c) 0 j = barPay c j := rfl
theorem payload_cell (c : Dev nD) (a : Fin 4) (k : Fin 3) (d : Fin 3) : (plan I).payload (cell c a k) 0 d = dmaPay I c a k := by
  show semPay I c (dec (csem a k)) = _; rw [dec_csem]; rfl

theorem expect_bar (c : Dev nD) : (plan I).expect (bar c) 0 = 3 := by
  unfold Schedule.expect Schedule.amountOf
  rw [duties_bar, Finset.sum_congr rfl fun d _ => (rfl : (plan I).amount (bar c) 0 d = 1)]; rfl
theorem expect_cell (c : Dev nD) (a : Fin 4) (k : Fin 3) : (plan I).expect (cell c a k) 0 = N := by
  unfold Schedule.expect Schedule.amountOf; rw [duties_cell, Finset.sum_singleton]; rfl

theorem three (Φ : Fin 3 → sProp 𝕄) : bigSep Finset.univ Φ = iprop(Φ 0 ∗ Φ 1 ∗ Φ 2) := by
  rw [bigSep_univ_eq_bigSepL [0, 1, 2] (by decide) (by decide), bigSepL_cons_cons, bigSepL_cons_cons, bigSepL_singleton]; rfl

theorem rest_bar (c : Dev nD) :
    bigSep ((plan I).duties (bar c) 0 \ ∅) (fun d => (plan I).payload (bar c) 0 d) = iprop(barPay c 0 ∗ barPay c 1 ∗ barPay c 2) := by
  rw [Finset.sdiff_empty, duties_bar, three]; rfl
theorem rest_cell (c : Dev nD) (a : Fin 4) (k : Fin 3) :
    bigSep ((plan I).duties (cell c a k) 0 \ ∅) (fun d => (plan I).payload (cell c a k) 0 d) = dmaPay I c a k := by
  rw [Finset.sdiff_empty, duties_cell, bigSep_singleton, payload_cell]

/-! ## Debts and levels -/

/-- What is owed along a list of cells, the head paid first. -/
def owe : List (GSem nD τ sig × ℕ) → CellTallies nD τ sig Unit
  | [] => 0
  | (g, n) :: l => owe l + tallyAt g () n

/-- The contributions still to be delivered, then everything, in the order it is paid. -/
def duesP (c : Dev nD) : List (GSem nD τ sig × ℕ) := [(cell (sh 0 c) 3 0, N), (cell (sh 2 c) 3 2, N), (cell (sh 1 c) 3 1, N)]
def duesX (c : Dev nD) : List (GSem nD τ sig × ℕ) :=
  (cell (sh 0 c) 1 0, N) :: (cell (sh 1 c) 1 1, N) :: (cell (sh 2 c) 1 2, N) :: duesP c
def dues (c : Dev nD) : List (GSem nD τ sig × ℕ) :=
  (bar (sh 0 c), 1) :: (bar (sh 1 c), 1) :: (bar (sh 2 c), 1) :: duesX c

def L (g : GSem nD τ sig) : Finset Unit := if g.1.2 = .tc then {()} else ∅

def semLv (s : SemLoc sig) : ℕ :=
  match s with
  | .reg _ => 1
  | .dma q => match dec q with
    | some (1, _) => 2
    | some (3, _) => 3
    | _ => 0

def lv (g : GSem nD τ sig) (_ : Unit) : ℕ := semLv g.2

theorem L_of_ne (g : GSem nD τ sig) (h : g.1.2 ≠ .tc) : L g = ∅ := if_neg h

theorem owe_pos {l : List (GSem nD τ sig × ℕ)} {g : GSem nD τ sig} {u : Unit} (h : 0 < owe l g u) : ∃ p ∈ l, g = p.1 := by
  induction l with
  | nil => exact absurd h (Nat.lt_irrefl 0)
  | cons p l ih =>
    obtain ⟨g', n⟩ := p
    unfold owe at h
    rw [Pi.add_apply, Finsupp.add_apply, tallyAt_apply] at h
    by_cases hg : g = g' ∧ u = ()
    · exact ⟨(g', n), List.mem_cons_self, hg.1⟩
    · rw [if_neg hg, Nat.add_zero] at h
      obtain ⟨p, hp, he⟩ := ih h
      exact ⟨p, List.mem_cons_of_mem _ hp, he⟩

/-- A wait is allowed when everything still owed lies on TensorCore cells of a higher level. -/
theorem may (c : Dev nD) (s : SemLoc sig) (l : List (GSem nD τ sig × ℕ))
    (hl : ∀ p ∈ l, p.1.1.2 = .tc ∧ semLv s < semLv p.1.2) :
    (levAts L lv : sProp 𝕄) ⊢ MayWait (c : Thread nD τ) s () (owe l) :=
  MayOwe.of_cut (L := L) (lev := lv) (semLv s)
    (fun p hp => by rw [Finset.mem_singleton.mp hp]; unfold L; rw [if_pos rfl]; exact Finset.mem_singleton_self _)
    (fun g u hg => by
      obtain ⟨p, hp, rfl⟩ := owe_pos hg
      unfold L; rw [if_pos (hl p hp).1]; exact Finset.mem_singleton_self _)
    (fun p hp => by rw [Finset.mem_singleton.mp hp]; exact le_refl _)
    (fun g u hg => by obtain ⟨p, hp, rfl⟩ := owe_pos hg; exact (hl p hp).2)

/-- A core and what it still owes. -/
def debt (c : Dev nD) (l : List (GSem nD τ sig × ℕ)) : sProp 𝕄 := iprop(∃ W, owes (c : Thread nD τ) (owe l) W)

/-! ## The ghost state -/

def barEmb : Dev nD ↪ GSem nD τ sig := ⟨fun c => bar c, fun _ _ h => congrArg (fun g : GSem nD τ sig => g.1.1) h⟩
def scEmb : Dev nD × (Fin 4 × Fin 3) ↪ GSem nD τ sig :=
  ⟨fun p => cell p.1 p.2.1 p.2.2, fun p p' h =>
    Prod.ext (congrArg (fun g : GSem nD τ sig => g.1.1) h)
      (csem_inj (SemLoc.dma.inj (congrArg Prod.snd h)))⟩

abbrev barCells : Finset (GSem nD τ sig) := Finset.univ.map barEmb
abbrev scCells : Finset (GSem nD τ sig) := Finset.univ.map scEmb

theorem bar_mem (c : Dev nD) : bar c ∈ (barCells ∪ scCells : Finset (GSem nD τ sig)) :=
  Finset.mem_union_left _ (Finset.mem_map_of_mem barEmb (Finset.mem_univ c))
theorem cell_mem (c : Dev nD) (a : Fin 4) (k : Fin 3) : cell c a k ∈ (barCells ∪ scCells : Finset (GSem nD τ sig)) :=
  Finset.mem_union_right _ (Finset.mem_map_of_mem scEmb (Finset.mem_univ (c, (a, k))))

/-- What every device may consult: every cell's invariant, and that every barrier is in its round. -/
def records (κ : GSem nD τ sig → ℕ) : sProp 𝕄 :=
  iprop((bigSep (barCells ∪ scCells) fun g => cellInv ER (plan I) (κ g) g) ∗ bigSep barCells fun g => reached ER g 0)

instance records_persistent (κ : GSem nD τ sig → ℕ) : BI.Persistent (records I κ) := by unfold records; infer_instance

theorem inv_at (κ : GSem nD τ sig → ℕ) {g : GSem nD τ sig} (hg : g ∈ (barCells ∪ scCells : Finset (GSem nD τ sig))) :
    records I κ ⊢ cellInv ER (plan I) (κ g) g := by
  unfold records
  have h : (bigSep (barCells ∪ scCells) fun g => (cellInv ER (plan I) (κ g) g : sProp 𝕄)) ⊢ cellInv ER (plan I) (κ g) g :=
    bigSep_elim hg
  iintro ⟨H, -⟩; iapply h; iexact H

theorem reached_bar (κ : GSem nD τ sig → ℕ) (c : Dev nD) : records I κ ⊢ reached ER (bar c) 0 := by
  unfold records
  have h : (bigSep barCells fun g => (reached ER g 0 : sProp 𝕄)) ⊢ reached ER (bar c) 0 :=
    bigSep_elim (Finset.mem_map_of_mem barEmb (Finset.mem_univ c))
  iintro ⟨-, H⟩; iapply h; iexact H

/-- A device's own transfer cells are in their round. -/
def begun (c : Dev nD) : sProp 𝕄 := bigSep Finset.univ fun p : Fin 4 × Fin 3 => reached ER (cell c p.1 p.2) 0

instance begun_persistent (c : Dev nD) : BI.Persistent (begun (F := F) c) := by unfold begun; infer_instance

theorem begun_at (c : Dev nD) (a : Fin 4) (k : Fin 3) : (begun c : sProp 𝕄) ⊢ reached ER (cell c a k) 0 := by
  unfold begun
  exact bigSep_elim (Φ := fun p : Fin 4 × Fin 3 => (reached ER (cell c p.1 p.2) 0 : sProp 𝕄)) (Finset.mem_univ (a, k))

/-- The right to signal the device `k + 1` places on. -/
abbrev tokB (c : Dev nD) (k : Fin 3) : sProp 𝕄 := dutyTok ER (bar (sh k c)) 0 k.rev
/-- The right to send to the device `k + 1` places on: `a` the own cell, `b` the peer's. -/
abbrev tokS (a b : Fin 4) (c : Dev nD) (k : Fin 3) : sProp 𝕄 :=
  iprop(dutyTok ER (cell c a k) 0 0 ∗ dutyTok ER (cell (sh k c) b k) 0 0)

abbrev at0 (c : Dev nD) (a : Fin 4) (k : Fin 3) : sProp 𝕄 := atPos ER (cell c a k) 0 ∅ 0

end Cert.Exchange
end
-- ==== Proof.Steps.lean ====
/- One lemma per kind of step of the exchange, each at a symbolic device and slot. -/
module

public import proofs.«01_k».proof.Proof.Proto
public import Idealize.ShloMosaic.Lib.Pipeline.Value

@[expose] public section

set_option maxRecDepth 16384

noncomputable section

namespace Cert.Exchange

open Cert.KernelIdeal Cert.KernelIdeal.Gen Cert.Model
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
local notation "𝕎" => wp (M := MT nD τ sig Unit (Elt F) ℕ UU ℕ) frame

abbrev 𝒱₀ : Variants := Variants.none

variable (I : Blocks F) (κ : GSem nD τ sig → ℕ) (c : Dev nD)

/-- What a step of device `c` is judged by. -/
local notation "𝔼" => wpE (defs₀ (F := F)) 𝒱₀ (c : Thread nD τ) none

/-- Signal the device `k + 1` places on, handing it the two slots it will write. -/
theorem wp_tell {α : Type} {Q : α → sProp 𝕄} {kont : PUnit → Prog (TpuEff nD τ sig (Elt F) Λ₀ .tc) α}
    (k : Fin 3) (n : Dev nD) (hn : n = sh k c) (l : List (GSem nD τ sig × ℕ)) :
    iprop(records I κ ∗ begun c ∗ debt c ((bar (sh k c), 1) :: l) ∗ tokB c k ∗ free gM k.rev c ∗ free rM k.rev c)
      ⊢ iprop((debt c l -∗ 𝕎 𝔼 Set.univ (kont ⟨⟩) Q)
          -∗ 𝕎 𝔼 Set.univ (.op (.semSignal (Dev.tc n) barS ((1#32 : BitVec 32).toInt)) kont) Q) := by
  subst hn
  iintro ⟨#HR, #HB, Ho, Ht, Hg, Hr⟩ Hk
  unfold debt
  icases Ho with ⟨%W, HO⟩
  iapply (Rounds.wp_signal 𝒱₀ ER (plan I) (c : Thread nD τ) none (dst := (sh k c : Thread nD τ)) (κ := κ (bar (sh k c)))
      (r := 0) (d := k.rev) (by rw [duties_bar]; exact Finset.mem_univ _) (show (plan I).amount (bar (sh k c)) 0 k.rev = 1 from rfl) () (owe l) rfl)
    $$ [HO Ht Hg Hr]
  · isplitr; · iapply (inv_at I κ (bar_mem (sh k c))); iexact HR
    isplitl [HO]; · iexact HO
    isplitl [Ht]; · iexact Ht
    isplitl [Hg Hr]
    · rw [payload_bar]; unfold barPay; rw [un_sh]
      isplitl [Hg Hr]; · isplitl [Hg] <;> iassumption
      isplitr; · iapply (begun_at c 1 k.rev); iexact HB
      iapply (begun_at c 3 k.rev); iexact HB
    · iapply (reached_bar I κ (sh k c)); iexact HR
  iintro HO
  iapply Hk
  iexists W; iexact HO

/-- Wait for the three signals: the slots to write on each of the other devices come with them. -/
theorem wp_gather {α : Type} {Q : α → sProp 𝕄} {kont : PUnit → Prog (TpuEff nD τ sig (Elt F) Λ₀ .tc) α}
    (l : List (GSem nD τ sig × ℕ)) (hl : ∀ p ∈ l, p.1.1.2 = .tc ∧ semLv (.reg barS) < semLv p.1.2) :
    iprop(records I κ ∗ levAts L lv ∗ cred (tallyAt (bar c) () 3) ∗ debt c l ∗ atPos ER (bar c) 0 ∅ 0)
      ⊢ iprop(((debt c l ∗ semVal (bar c) 0 ∗ barPay c 0 ∗ barPay c 1 ∗ barPay c 2) -∗ 𝕎 𝔼 Set.univ (kont ⟨⟩) Q)
          -∗ 𝕎 𝔼 Set.univ (.op (.semWait barS ((3#32 : BitVec 32).toInt)) kont) Q) := by
  iintro ⟨#HR, #Hlev, Hc, Ho, Hat⟩ Hk
  unfold debt
  icases Ho with ⟨%W, HO⟩
  iapply (Rounds.wp_wait_rest_token 𝒱₀ ER (plan I) (c : Thread nD τ) none (κ := κ (bar c))
      (wpE_semWait_eq 𝒱₀ (c : Thread nD τ) none Set.univ) (Set.mem_univ _) () (O := owe l) (W := W) (R := 0) (m := 0) (T := ∅)
      ((Nat.zero_add 3).trans (expect_bar I c).symm)) $$ [Hc HO Hat]
  · isplitr; · iapply (inv_at I κ (bar_mem c)); iexact HR
    isplitl [Hc]; · iexact Hc
    isplitl [HO]; · iexact HO
    isplitr; · iapply (may c (.reg barS) l hl); iexact Hlev
    iexact Hat
  iintro ⟨HO, Hat, -, Hpay⟩
  ihave Hp := (Entails.of_eq (rest_bar I c)) $$ Hpay
  imod (Rounds.cell_close ER (plan I) (Set.mem_univ (κ (bar c))) (fun h => h) (R := 0 + 1) (duties_later I (bar c))) $$ [Hat] with Hz
  · isplitr; · iapply (inv_at I κ (bar_mem c)); iexact HR
    iexact Hat
  iapply Hk
  isplitl [HO]; · iexists _; iexact HO
  isplitl [Hz]; · iexact Hz
  iexact Hp

/-- Copy a block to the device `k + 1` places on. -/
theorem wp_pass {α : Type} {Q : α → sProp 𝕄} {kont : PUnit → Prog (TpuEff nD τ sig (Elt F) Λ₀ .tc) α}
    (a b : Fin 4) (k : Fin 3) (n : Dev nD) (hn : n = sh k c) (l : List (GSem nD τ sig × ℕ))
    {src dst : Memref sig .tc .vmem S512x1024 .bf16}
    {hsc : (dst : Memref sig (Dev.tc n : Thread nD τ).2.kind .vmem S512x1024 .bf16).view.ref.isScScratch = false}
    {hsrc : src.view.WordExact} {hdst : (dst : Memref sig (Dev.tc n : Thread nD τ).2.kind .vmem S512x1024 .bf16).view.WordExact}
    {hsem : DmaTarget.Typed .vmem (.dma (csem b k)) (.remote (Dev.tc n : Thread nD τ) dst (.dma (csem a k)) hsc)}
    (q : PosShare TreeShare) (fs : Buf (Elt F) (src.view.loc (c : Thread nD τ))) (fd : Buf (Elt F) (dst.view.loc (sh k c : Thread nD τ)))
    (hN : dst.view.dmaCredit = N)
    (h₁ : pts src c q fs ⊢ dmaPay I c a k)
    (h₂ : pts dst (sh k c) fullShare (dst.view.write (Elt F) fd (src.view.read (Elt F) fs) Finset.univ) ⊢ dmaPay I (sh k c) b k) :
    iprop(records I κ ∗ begun c ∗ pts src c q fs ∗ pts dst (sh k c) fullShare fd ∗ debt c ((cell (sh k c) b k, N) :: l)
        ∗ tokS a b c k ∗ reached ER (cell (sh k c) b k) 0)
      ⊢ iprop(((cred (tallyAt (cell c a k) () N) ∗ debt c l) -∗ 𝕎 𝔼 Set.univ (kont ⟨⟩) Q)
          -∗ 𝕎 𝔼 Set.univ (.op (.enqueueDma src (.remote (Dev.tc n : Thread nD τ) dst (.dma (csem a k)) hsc) (.dma (csem b k)) hsrc hdst hsem) kont) Q) := by
  subst hn
  iintro ⟨#HR, #HB, Hs, Hd, Ho, ⟨Ht1, Ht2⟩, #Hr2⟩ Hk
  unfold debt
  icases Ho with ⟨%W, HO⟩
  iapply (Rounds.wp_send_pointsTo 𝒱₀ ER (plan I) (c : Thread nD τ) none (c' := (sh k c : Thread nD τ)) (src := src) (dst := dst)
      (κ₁ := κ (cell c a k)) (κ₂ := κ (cell (sh k c) b k)) (q := q) (fs := fs) (r₁ := 0) (r₂ := 0) (d₁ := 0) (d₂ := 0) (fd := fd)
      (by rw [duties_cell]; exact Finset.mem_singleton_self _) (by rw [duties_cell]; exact Finset.mem_singleton_self _)
      () () N (show dst.view.amount (.dma (csem b k)) = N from hN) rfl rfl (owe l) rfl (W := W)
      (by rw [payload_cell]; unfold pts at h₁; exact h₁)
      (by rw [payload_cell]; unfold pts at h₂; exact h₂)) $$ [Hs Hd HO Ht1 Ht2]
  · isplitr; · iapply (inv_at I κ (cell_mem c a k)); iexact HR
    isplitr; · iapply (inv_at I κ (cell_mem (sh k c) b k)); iexact HR
    unfold pts
    isplitl [Hs]; · iexact Hs
    isplitl [Hd]; · iexact Hd
    isplitl [HO]; · iexact HO
    isplitl [Ht1]; · iexact Ht1
    isplitr; · iapply (begun_at c a k); iexact HB
    isplitl [Ht2]; · iexact Ht2
    iexact Hr2
  iintro ⟨Hc, HO⟩
  iapply Hk
  isplitl [Hc]; · iexact Hc
  iexists W; iexact HO

/-- Wait for a transfer: its payload, and the semaphore back at zero. -/
theorem wp_land {α : Type} {Q : α → sProp 𝕄} {kont : PUnit → Prog (TpuEff nD τ sig (Elt F) Λ₀ .tc) α}
    (a : Fin 4) (k : Fin 3) (l : List (GSem nD τ sig × ℕ))
    (hl : ∀ p ∈ l, p.1.1.2 = .tc ∧ semLv (.dma (csem a k)) < semLv p.1.2)
    {src dst : Memref sig .tc .vmem S512x1024 .bf16} {hsrc : src.view.WordExact} {hdst : dst.view.WordExact}
    (hN : dst.view.dmaCredit = N) {P : sProp 𝕄} (hP : dmaPay I c a k = P) :
    iprop(records I κ ∗ levAts L lv ∗ cred (tallyAt (cell c a k) () N) ∗ debt c l ∗ at0 c a k)
      ⊢ iprop(((debt c l ∗ semVal (cell c a k) 0 ∗ P) -∗ 𝕎 𝔼 Set.univ (kont ⟨⟩) Q)
          -∗ 𝕎 𝔼 Set.univ (.op (.waitDma2 (csem a k) src dst hsrc hdst) kont) Q) := by
  subst hP
  iintro ⟨#HR, #Hlev, Hc, Ho, Hat⟩ Hk
  unfold debt
  icases Ho with ⟨%W, HO⟩
  iapply (Rounds.wp_wait_rest_token 𝒱₀ ER (plan I) (c : Thread nD τ) none (κ := κ (cell c a k))
      (wpE_waitDma2_eq 𝒱₀ (c : Thread nD τ) none Set.univ) (Set.mem_univ _) () (O := owe l) (W := W) (R := 0) (m := 0) (T := ∅)
      (by rw [Nat.zero_add, hN, expect_cell I c a k])) $$ [Hc HO Hat]
  · isplitr; · iapply (inv_at I κ (cell_mem c a k)); iexact HR
    isplitl [Hc]; · iexact Hc
    isplitl [HO]; · iexact HO
    isplitr; · iapply (may c (.dma (csem a k)) l hl); iexact Hlev
    iexact Hat
  iintro ⟨HO, Hat, -, Hpay⟩
  ihave Hp := (Entails.of_eq (rest_cell I c a k)) $$ Hpay
  imod (Rounds.cell_close ER (plan I) (Set.mem_univ (κ (cell c a k))) (fun h => h) (R := 0 + 1) (duties_later I (cell c a k))) $$ [Hat] with Hz
  · isplitr; · iapply (inv_at I κ (cell_mem c a k)); iexact HR
    iexact Hat
  iapply Hk
  isplitl [HO]; · iexists _; iexact HO
  isplitl [Hz]; · iexact Hz
  iexact Hp

/-! ## Slots, loaded and stored through the whole buffer -/

theorem slot_set (M : Memref sig .tc .vmem S3x512x1024 .bf16) (k : Fin 3) :
    M.view.setOn (slotR k).toLoadRect.set = (slot M k).view.set := by
  rw [Memref.set_view_squeeze]
  exact (View.set_slice (v := M.view) (slotR k)).symm

theorem slot_read (M : Memref sig .tc .vmem S3x512x1024 .bf16) (k : Fin 3) (f : M.view.ty.Contents (Elt F)) :
    shapeCast S512x1024 (M.view.readAt (Elt F) (slotR k).toLoadRect f) shapeCasts_S1x512x1024_S512x1024
      = (slot M k).view.read (Elt F) f := rfl

/-- A load of slot `k` reads its contents. -/
theorem wp_load_slot {α : Type} {Q : α → sProp 𝕄} (M : Memref sig .tc .vmem S3x512x1024 .bf16) (k : Fin 3) (X : FVec F S512x1024 .bf16)
    {hl : M.view.LoadsAt (slotR k).toLoadRect} {kont : Vec F S1x512x1024 .bf16 → Prog (TpuEff nD τ sig (Elt F) Λ₀ .tc) α} :
    holds M k c X
      ⊢ iprop((∀ w : Vec F S1x512x1024 .bf16, (⌜shapeCast S512x1024 w shapeCasts_S1x512x1024_S512x1024 = X⌝ ∗ holds M k c X) -∗ 𝕎 𝔼 Set.univ (kont w) Q)
          -∗ 𝕎 𝔼 Set.univ (.op (.load M (slotR k).toLoadRect hl) kont) Q) := by
  unfold holds pts
  iintro ⟨%f, %hf, H⟩ Hk
  iapply (wp_load 𝒱₀ (c : Thread nD τ) none Set.univ (m := M) (S := (slot M k).view.set) (le_of_eq (slot_set M k))) $$ H
  iintro H
  iapply Hk
  isplitr; · ipureintro; exact hf
  iexists f
  isplitr; · ipureintro; exact hf
  iexact H

/-- A load of a slot whose contents do not matter. -/
theorem wp_load_free {α : Type} {Q : α → sProp 𝕄} (M : Memref sig .tc .vmem S3x512x1024 .bf16) (k : Fin 3)
    {hl : M.view.LoadsAt (slotR k).toLoadRect} {kont : Vec F S1x512x1024 .bf16 → Prog (TpuEff nD τ sig (Elt F) Λ₀ .tc) α} :
    free M k c
      ⊢ iprop((∀ w : Vec F S1x512x1024 .bf16, free M k c -∗ 𝕎 𝔼 Set.univ (kont w) Q)
          -∗ 𝕎 𝔼 Set.univ (.op (.load M (slotR k).toLoadRect hl) kont) Q) := by
  unfold free pts
  iintro ⟨%f, H⟩ Hk
  iapply (wp_load 𝒱₀ (c : Thread nD τ) none Set.univ (m := M) (S := (slot M k).view.set) (le_of_eq (slot_set M k))) $$ H
  iintro H
  iapply Hk
  iexists f; iexact H

/-- A store over slot `k`. -/
theorem wp_store_slot {α : Type} {Q : α → sProp 𝕄} (M : Memref sig .tc .vmem S3x512x1024 .bf16) (k : Fin 3) (w : Vec F S1x512x1024 .bf16)
    {hx : (M.access (slotR k)).Stores Finset.univ} {hm : (Finset.univ : Finset (slotR k).shape.Idx) = Finset.univ ∨ ∀ a, (slotR k).stride a = 1}
    {W : FVec F S512x1024 .bf16} (hw : w = shapeCast S1x512x1024 W shapeCasts_S512x1024_S1x512x1024)
    {kont : PUnit → Prog (TpuEff nD τ sig (Elt F) Λ₀ .tc) α} :
    free M k c
      ⊢ iprop((holds M k c W -∗ 𝕎 𝔼 Set.univ (kont ⟨⟩) Q)
          -∗ 𝕎 𝔼 Set.univ (.op (.store M (slotR k) w Finset.univ hx hm) kont) Q) := by
  unfold free holds pts
  iintro ⟨%f, H⟩ Hk
  iapply (wp_store 𝒱₀ (c : Thread nD τ) none Set.univ (m := M) (r := slotR k) (Mk := Finset.univ)
    (S := (slot M k).view.set) (by rw [Memref.set_view_squeeze]; exact Finset.Subset.refl _)) $$ H
  iintro H
  iapply Hk
  iexists ((M.access (slotR k)).write (Elt F) f w Finset.univ)
  isplitr
  · ipureintro
    rw [← slot_read]
    refine (congrArg (fun u => shapeCast S512x1024 u shapeCasts_S1x512x1024_S512x1024) (a₂ := w) ?_).trans
      (by rw [hw]; exact shapeCast_shapeCast _ _ _)
    exact View.read_write_univ (v := M.access (slotR k)) f w
  iexact H

/-! ## Shares of the own rows -/

theorem x_quarters (f : Vec F S512x1024 .bf16) :
    pts xM c fullShare f
      ⊣⊢ iprop((pts xM c (lent 0) f ∗ pts xM c (lent 1) f) ∗ (pts xM c (lent 2) f ∗ pts xM c kept f)) := by
  unfold pts lent kept
  exact (pointsTo_share (PosShare.mem_left_op_right fullShare)).trans
    (sep_congr (pointsTo_share (PosShare.mem_left_op_right fullShare.left)) (pointsTo_share (PosShare.mem_left_op_right fullShare.right)))

/-! ## The input blocks and the result block -/

/-- A whole staging buffer of device `c`. -/
abbrev stg (b : Ref sig .tc) (X : b.ty.Contents (Elt F)) : sProp 𝕄 :=
  ((c : Thread nD τ).loc b) ↦{fullShare} (X : Buf (Elt F) ((c : Thread nD τ).loc b))

/-- The five input blocks, the rows at the share kept for reading. -/
def inputs : sProp 𝕄 :=
  iprop(pts xM c kept (I.x c) ∗ stg c cc0_stg1_0 (I.wq c) ∗ stg c cc0_stg2_0 (I.wo c) ∗ stg c cc0_stg3_0 (I.k c) ∗ stg c cc0_stg4_0 (I.v c))

theorem zero2 : (![0, 0] : Fin 2 → Nat) = fun _ => 0 := funext fun a => by fin_cases a <;> rfl

section Loads
variable {α : Type} {Q : α → sProp (MT nD τ sig Unit (Elt F) ℕ UU ℕ)}

theorem wp_rows {inb : ∀ a, (![0, 0] : Fin 2 → Nat) a + S512x1024.size a ≤ S512x1024.size a}
    {hl : xM.view.LoadsAt (Rect.unit (s := S512x1024) ![0, 0] S512x1024.size inb).toLoadRect}
    {kont : Vec F S512x1024 .bf16 → Prog (TpuEff nD τ sig (Elt F) Λ₀ .tc) α} :
    inputs I c ⊢ iprop((inputs I c -∗ 𝕎 𝔼 Set.univ (kont (I.x c)) Q)
      -∗ 𝕎 𝔼 Set.univ (.op (.load xM (Rect.unit (s := S512x1024) ![0, 0] S512x1024.size inb).toLoadRect hl) kont) Q) := by
  unfold inputs pts
  iintro ⟨H, Hr⟩ Hk
  iapply (wp_load 𝒱₀ (c : Thread nD τ) none Set.univ (m := xM) (S := xM.view.set)
    (by rw [View.set_whole]; exact Finset.subset_univ _)) $$ H
  iintro H
  rw [show xM.view.readAt (Elt F) (Rect.unit (s := S512x1024) ![0, 0] S512x1024.size inb).toLoadRect (I.x c) = I.x c from
    Memref.readAt_unit_zero (Elt F) cc0_stg0_0 zero2 _ _]
  iapply Hk
  isplitl [H] <;> iassumption

theorem wp_wq {inb : ∀ a, (![0, 0] : Fin 2 → Nat) a + S1024x1024.size a ≤ S1024x1024.size a}
    {hl : wqM.view.LoadsAt (Rect.unit (s := S1024x1024) ![0, 0] S1024x1024.size inb).toLoadRect}
    {kont : Vec F S1024x1024 .bf16 → Prog (TpuEff nD τ sig (Elt F) Λ₀ .tc) α} :
    inputs I c ⊢ iprop((inputs I c -∗ 𝕎 𝔼 Set.univ (kont (I.wq c)) Q)
      -∗ 𝕎 𝔼 Set.univ (.op (.load wqM (Rect.unit (s := S1024x1024) ![0, 0] S1024x1024.size inb).toLoadRect hl) kont) Q) := by
  unfold inputs
  iintro ⟨Hx, H, Hr⟩ Hk
  iapply (wp_load 𝒱₀ (c : Thread nD τ) none Set.univ (m := wqM) (Finset.subset_univ _)) $$ H
  iintro H
  rw [show wqM.view.readAt (Elt F) (Rect.unit (s := S1024x1024) ![0, 0] S1024x1024.size inb).toLoadRect (I.wq c) = I.wq c from
    Memref.readAt_unit_zero (Elt F) cc0_stg1_0 zero2 _ _]
  iapply Hk
  isplitl [Hx]; · iexact Hx
  isplitl [H] <;> iassumption

theorem wp_wo {inb : ∀ a, (![0, 0] : Fin 2 → Nat) a + S1024x1024.size a ≤ S1024x1024.size a}
    {hl : woM.view.LoadsAt (Rect.unit (s := S1024x1024) ![0, 0] S1024x1024.size inb).toLoadRect}
    {kont : Vec F S1024x1024 .bf16 → Prog (TpuEff nD τ sig (Elt F) Λ₀ .tc) α} :
    inputs I c ⊢ iprop((inputs I c -∗ 𝕎 𝔼 Set.univ (kont (I.wo c)) Q)
      -∗ 𝕎 𝔼 Set.univ (.op (.load woM (Rect.unit (s := S1024x1024) ![0, 0] S1024x1024.size inb).toLoadRect hl) kont) Q) := by
  unfold inputs
  iintro ⟨Hx, Hq, H, Hr⟩ Hk
  iapply (wp_load 𝒱₀ (c : Thread nD τ) none Set.univ (m := woM) (Finset.subset_univ _)) $$ H
  iintro H
  rw [show woM.view.readAt (Elt F) (Rect.unit (s := S1024x1024) ![0, 0] S1024x1024.size inb).toLoadRect (I.wo c) = I.wo c from
    Memref.readAt_unit_zero (Elt F) cc0_stg2_0 zero2 _ _]
  iapply Hk
  isplitl [Hx]; · iexact Hx
  isplitl [Hq]; · iexact Hq
  isplitl [H] <;> iassumption

/-- Head `h` of a stack of eight. -/
abbrev headR (h : Fin 8) : Rect S8x2048x128 := Rect.unit (s := S8x2048x128) ![h.val, 0, 0] S1x2048x128.size (head_inb h)

/-- A load of one head's keys, or values. -/
theorem wp_key (h : Fin 8) {hl : kM.view.LoadsAt (headR h).toLoadRect}
    {kont : Vec F S1x2048x128 .bf16 → Prog (TpuEff nD τ sig (Elt F) Λ₀ .tc) α} :
    inputs I c ⊢ iprop((inputs I c -∗ 𝕎 𝔼 Set.univ (kont (row (I.k c) h)) Q)
      -∗ 𝕎 𝔼 Set.univ (.op (.load kM (headR h).toLoadRect hl) kont) Q) := by
  unfold inputs
  iintro ⟨Hx, Hq, Ho, H, Hv⟩ Hk
  iapply (wp_load 𝒱₀ (c : Thread nD τ) none Set.univ (m := kM) (Finset.subset_univ _)) $$ H
  iintro H
  iapply Hk
  isplitl [Hx]; · iexact Hx
  isplitl [Hq]; · iexact Hq
  isplitl [Ho]; · iexact Ho
  isplitl [H] <;> iassumption

theorem wp_val (h : Fin 8) {hl : vM.view.LoadsAt (headR h).toLoadRect}
    {kont : Vec F S1x2048x128 .bf16 → Prog (TpuEff nD τ sig (Elt F) Λ₀ .tc) α} :
    inputs I c ⊢ iprop((inputs I c -∗ 𝕎 𝔼 Set.univ (kont (row (I.v c) h)) Q)
      -∗ 𝕎 𝔼 Set.univ (.op (.load vM (headR h).toLoadRect hl) kont) Q) := by
  unfold inputs
  iintro ⟨Hx, Hq, Ho, Hkey, H⟩ Hk
  iapply (wp_load 𝒱₀ (c : Thread nD τ) none Set.univ (m := vM) (Finset.subset_univ _)) $$ H
  iintro H
  iapply Hk
  isplitl [Hx]; · iexact Hx
  isplitl [Hq]; · iexact Hq
  isplitl [Ho]; · iexact Ho
  isplitl [Hkey] <;> iassumption

theorem wp_load_out {inb : ∀ a, (![0, 0] : Fin 2 → Nat) a + S512x1024.size a ≤ S512x1024.size a} (X : Vec F S512x1024 .f32)
    {hl : oM.view.LoadsAt (Rect.unit (s := S512x1024) ![0, 0] S512x1024.size inb).toLoadRect}
    {kont : Vec F S512x1024 .f32 → Prog (TpuEff nD τ sig (Elt F) Λ₀ .tc) α} :
    stg c cc0_stg5_0 X ⊢ iprop((stg c cc0_stg5_0 X -∗ 𝕎 𝔼 Set.univ (kont X) Q)
      -∗ 𝕎 𝔼 Set.univ (.op (.load oM (Rect.unit (s := S512x1024) ![0, 0] S512x1024.size inb).toLoadRect hl) kont) Q) := by
  iintro H Hk
  iapply (wp_load 𝒱₀ (c : Thread nD τ) none Set.univ (m := oM) (Finset.subset_univ _)) $$ H
  iintro H
  rw [show oM.view.readAt (Elt F) (Rect.unit (s := S512x1024) ![0, 0] S512x1024.size inb).toLoadRect X = X from
    Memref.readAt_unit_zero (Elt F) cc0_stg5_0 zero2 _ _]
  iapply Hk
  iexact H

theorem wp_store_out {inb : ∀ a, (![0, 0] : Fin 2 → Nat) a + S512x1024.size a ≤ S512x1024.size a} (X w : Vec F S512x1024 .f32)
    {hx : (oM.access (Rect.unit (s := S512x1024) ![0, 0] S512x1024.size inb)).Stores Finset.univ}
    {hm : (Finset.univ : Finset (Rect.unit (s := S512x1024) ![0, 0] S512x1024.size inb).shape.Idx) = Finset.univ
      ∨ ∀ a, (Rect.unit (s := S512x1024) ![0, 0] S512x1024.size inb).stride a = 1}
    {W : Vec F S512x1024 .f32} (hw : w = W) {kont : PUnit → Prog (TpuEff nD τ sig (Elt F) Λ₀ .tc) α} :
    stg c cc0_stg5_0 X ⊢ iprop((stg c cc0_stg5_0 W -∗ 𝕎 𝔼 Set.univ (kont ⟨⟩) Q)
      -∗ 𝕎 𝔼 Set.univ (.op (.store oM (Rect.unit (s := S512x1024) ![0, 0] S512x1024.size inb) w Finset.univ hx hm) kont) Q) := by
  subst hw
  iintro H Hk
  iapply (wp_store 𝒱₀ (c : Thread nD τ) none Set.univ (m := oM) (r := Rect.unit (s := S512x1024) ![0, 0] S512x1024.size inb)
    (Mk := Finset.univ) (Finset.subset_univ _)) $$ H
  iintro H
  rw [show (oM.access (Rect.unit (s := S512x1024) ![0, 0] S512x1024.size inb) : View sig .tc _ _ _).write (Elt F) X w Finset.univ = w from
    Memref.write_access_unit_zero_univ (Elt F) cc0_stg5_0 zero2 _ X w]
  iapply Hk
  iexact H

end Loads

end Cert.Exchange
end
-- ==== Proof.Body.lean ====
module

public import proofs.«01_k».proof.Proof.Steps

@[expose] public section

set_option maxRecDepth 16384

noncomputable section

/-!
One device's run of the kernel body, at a symbolic device.
-/

namespace Cert.Exchange

open Cert.KernelIdeal Cert.KernelIdeal.Gen Cert.Model
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
local notation "𝕎" => wp (M := MT nD τ sig Unit (Elt F) ℕ UU ℕ) frame

variable (I : Blocks F) (κ : GSem nD τ sig → ℕ) (c : Dev nD)

local notation "𝔼" => wpE (defs₀ (F := F)) 𝒱₀ (c : Thread nD τ) none

/-! ## The semaphores as the body names them -/

theorem xs0 : ((cc0_scratch3.slice (Rect.unit (s := S3) ![0] S1.size inb_S3_S1_0)).squeeze S_ squeezes_S1_S_).sem = csem 0 0 := rfl
theorem xs1 : ((cc0_scratch3.slice (Rect.unit (s := S3) ![1] S1.size inb_S3_S1_1)).squeeze S_ squeezes_S1_S_).sem = csem 0 1 := rfl
theorem xs2 : ((cc0_scratch3.slice (Rect.unit (s := S3) ![2] S1.size inb_S3_S1_2)).squeeze S_ squeezes_S1_S_).sem = csem 0 2 := rfl
theorem xr0 : ((cc0_scratch4.slice (Rect.unit (s := S3) ![0] S1.size inb_S3_S1_0)).squeeze S_ squeezes_S1_S_).sem = csem 1 0 := rfl
theorem xr1 : ((cc0_scratch4.slice (Rect.unit (s := S3) ![1] S1.size inb_S3_S1_1)).squeeze S_ squeezes_S1_S_).sem = csem 1 1 := rfl
theorem xr2 : ((cc0_scratch4.slice (Rect.unit (s := S3) ![2] S1.size inb_S3_S1_2)).squeeze S_ squeezes_S1_S_).sem = csem 1 2 := rfl
theorem ps0 : ((cc0_scratch5.slice (Rect.unit (s := S3) ![0] S1.size inb_S3_S1_0)).squeeze S_ squeezes_S1_S_).sem = csem 2 0 := rfl
theorem ps1 : ((cc0_scratch5.slice (Rect.unit (s := S3) ![1] S1.size inb_S3_S1_1)).squeeze S_ squeezes_S1_S_).sem = csem 2 1 := rfl
theorem ps2 : ((cc0_scratch5.slice (Rect.unit (s := S3) ![2] S1.size inb_S3_S1_2)).squeeze S_ squeezes_S1_S_).sem = csem 2 2 := rfl
theorem pr0 : ((cc0_scratch6.slice (Rect.unit (s := S3) ![0] S1.size inb_S3_S1_0)).squeeze S_ squeezes_S1_S_).sem = csem 3 0 := rfl
theorem pr1 : ((cc0_scratch6.slice (Rect.unit (s := S3) ![1] S1.size inb_S3_S1_1)).squeeze S_ squeezes_S1_S_).sem = csem 3 1 := rfl
theorem pr2 : ((cc0_scratch6.slice (Rect.unit (s := S3) ![2] S1.size inb_S3_S1_2)).squeeze S_ squeezes_S1_S_).sem = csem 3 2 := rfl

theorem slot_credit (M : Memref sig .tc .vmem S3x512x1024 .bf16) (k : Fin 3) : (slot M k).view.dmaCredit = N := rfl
theorem rows_credit : xM.view.dmaCredit = N := rfl

/-! ## Levels: what is still owed at each wait lies above it -/

theorem above_bar : ∀ p ∈ duesX c, p.1.1.2 = .tc ∧ semLv (.reg barS) < semLv p.1.2 := by
  intro p hp
  simp only [duesX, duesP, List.mem_cons, List.not_mem_nil, _root_.or_false] at hp
  rcases hp with rfl | rfl | rfl | rfl | rfl | rfl <;> exact ⟨rfl, show (1 : ℕ) < semLv (.dma (csem _ _)) by decide⟩

/-- After the gathered rows have arrived only partial results are owed. -/
theorem above_rows (k : Fin 3) : ∀ p ∈ duesP c, p.1.1.2 = .tc ∧ semLv (.dma (csem 1 k)) < semLv p.1.2 := by
  intro p hp
  rw [show semLv (.dma (csem 1 k)) = 2 from by unfold semLv; dsimp only; rw [dec_csem]; rfl]
  simp only [duesP, List.mem_cons, List.not_mem_nil, _root_.or_false] at hp
  rcases hp with rfl | rfl | rfl <;> exact ⟨rfl, show (2 : ℕ) < semLv (.dma (csem _ _)) by decide⟩

theorem above_rest (k : Fin 3) : ∀ p ∈ [(cell (sh 2 c) 3 2, N), (cell (sh 1 c) 3 1, N)], p.1.1.2 = .tc ∧ semLv (.dma (csem 1 k)) < semLv p.1.2 :=
  fun p hp => above_rows c k p (List.mem_cons_of_mem _ hp)

theorem above_last (k : Fin 3) : ∀ p ∈ [(cell (sh 1 c) 3 1, N)], p.1.1.2 = .tc ∧ semLv (.dma (csem 1 k)) < semLv p.1.2 :=
  fun p hp => above_rest c k p (List.mem_cons_of_mem _ hp)

theorem above_nil (s : SemLoc sig) : ∀ p ∈ ([] : List (GSem nD τ sig × ℕ)), p.1.1.2 = .tc ∧ semLv s < semLv p.1.2 := by
  intro p hp; cases hp

/-! ## The two kinds of transfer -/

/-- What device `c` knows throughout. -/
def know : sProp 𝕄 := iprop(records I κ ∗ begun c ∗ levAts L lv)

instance know_persistent : BI.Persistent (know I κ c) := by unfold know; infer_instance

theorem know_records : know I κ c ⊢ records I κ := by unfold know; iintro ⟨H, -⟩; iexact H
theorem know_begun : know I κ c ⊢ begun c := by unfold know; iintro ⟨-, H, -⟩; iexact H
theorem know_lev : know I κ c ⊢ levAts L lv := by unfold know; iintro ⟨-, -, H⟩; iexact H

section Transfers
variable {α : Type} {Q : α → sProp (MT nD τ sig Unit (Elt F) ℕ UU ℕ)} {kont : PUnit → Prog (TpuEff nD τ sig (Elt F) Λ₀ .tc) α}

/-- Send the own rows to the device `k + 1` places on. -/
theorem wp_share (k : Fin 3) (n : Dev nD) (hn : n = sh k c) (l : List (GSem nD τ sig × ℕ))
    {hsc : (slot gM k : Memref sig (Dev.tc n : Thread nD τ).2.kind .vmem S512x1024 .bf16).view.ref.isScScratch = false}
    {hsrc : xM.view.WordExact} {hdst : (slot gM k : Memref sig (Dev.tc n : Thread nD τ).2.kind .vmem S512x1024 .bf16).view.WordExact}
    {hsem : DmaTarget.Typed .vmem (.dma (csem 1 k)) (.remote (Dev.tc n : Thread nD τ) (slot gM k) (.dma (csem 0 k)) hsc)} :
    iprop(know I κ c ∗ pts xM c (lent k) (I.x c) ∗ free gM k (sh k c) ∗ debt c ((cell (sh k c) 1 k, N) :: l)
        ∗ tokS 0 1 c k ∗ reached ER (cell (sh k c) 1 k) 0)
      ⊢ iprop(((cred (tallyAt (cell c 0 k) () N) ∗ debt c l) -∗ 𝕎 𝔼 Set.univ (kont ⟨⟩) Q)
          -∗ 𝕎 𝔼 Set.univ (.op (.enqueueDma xM (.remote (Dev.tc n : Thread nD τ) (slot gM k) (.dma (csem 0 k)) hsc) (.dma (csem 1 k)) hsrc hdst hsem) kont) Q) := by
  have h₂ (fd) : pts (slot gM k) (sh k c) fullShare ((slot gM k).view.write (Elt F) fd (xM.view.read (Elt F) (I.x c)) Finset.univ)
      ⊢ dmaPay I (sh k c) 1 k := by
    show _ ⊢ holds gM k (sh k c) (I.x (un k (sh k c)))
    unfold holds un
    rw [un_sh]
    iintro H
    iexists _
    isplitr
    rotate_left
    · iexact H
    · ipureintro
      rw [View.read_write_univ]; rfl
  unfold free
  iintro ⟨#HK, Hx, ⟨%fd, Hg⟩, Ho, Ht, Hr⟩ Hk
  iapply (wp_pass I κ c 0 1 k n hn l (src := xM) (dst := slot gM k) (lent k) (I.x c) fd (slot_credit gM k) (Entails.refl _) (h₂ fd)) $$ [Hx Hg Ho Ht Hr]
  · isplitr; · iapply (know_records I κ c); iexact HK
    isplitr; · iapply (know_begun I κ c); iexact HK
    isplitl [Hx]; · iexact Hx
    isplitl [Hg]; · iexact Hg
    isplitl [Ho]; · iexact Ho
    isplitl [Ht] <;> iassumption
  iexact Hk

/-- Send the partial result computed for the device `k + 1` places on. -/
theorem wp_return (k : Fin 3) (n : Dev nD) (hn : n = sh k c) (l : List (GSem nD τ sig × ℕ))
    {hsc : (slot rM k : Memref sig (Dev.tc n : Thread nD τ).2.kind .vmem S512x1024 .bf16).view.ref.isScScratch = false}
    {hsrc : (slot sM k).view.WordExact} {hdst : (slot rM k : Memref sig (Dev.tc n : Thread nD τ).2.kind .vmem S512x1024 .bf16).view.WordExact}
    {hsem : DmaTarget.Typed .vmem (.dma (csem 3 k)) (.remote (Dev.tc n : Thread nD τ) (slot rM k) (.dma (csem 2 k)) hsc)} :
    iprop(know I κ c ∗ holds sM k c (give I c (sh k c)) ∗ free rM k (sh k c) ∗ debt c ((cell (sh k c) 3 k, N) :: l)
        ∗ tokS 2 3 c k ∗ reached ER (cell (sh k c) 3 k) 0)
      ⊢ iprop(((cred (tallyAt (cell c 2 k) () N) ∗ debt c l) -∗ 𝕎 𝔼 Set.univ (kont ⟨⟩) Q)
          -∗ 𝕎 𝔼 Set.univ (.op (.enqueueDma (slot sM k) (.remote (Dev.tc n : Thread nD τ) (slot rM k) (.dma (csem 2 k)) hsc) (.dma (csem 3 k)) hsrc hdst hsem) kont) Q) := by
  have h₁ (fs) : pts (slot sM k) c fullShare fs ⊢ dmaPay I c 2 k := by
    show _ ⊢ free sM k c
    unfold free
    iintro H; iexists fs; iexact H
  have h₂ (fd) (fs) (hfs : (slot sM k).view.read (Elt F) fs = give I c (sh k c)) :
      pts (slot rM k) (sh k c) fullShare ((slot rM k).view.write (Elt F) fd ((slot sM k).view.read (Elt F) fs) Finset.univ)
      ⊢ dmaPay I (sh k c) 3 k := by
    show _ ⊢ holds rM k (sh k c) (give I (un k (sh k c)) (sh k c))
    unfold holds un
    rw [un_sh]
    iintro H
    iexists _
    isplitr
    rotate_left
    · iexact H
    · ipureintro
      rw [View.read_write_univ]; exact hfs
  unfold free holds
  iintro ⟨#HK, ⟨%fs, %hfs, Hs⟩, ⟨%fd, Hg⟩, Ho, Ht, Hr⟩ Hk
  iapply (wp_pass I κ c 2 3 k n hn l (src := slot sM k) (dst := slot rM k) fullShare fs fd (slot_credit rM k) (h₁ fs) (h₂ fd fs hfs)) $$ [Hs Hg Ho Ht Hr]
  · isplitr; · iapply (know_records I κ c); iexact HK
    isplitr; · iapply (know_begun I κ c); iexact HK
    isplitl [Hs]; · iexact Hs
    isplitl [Hg]; · iexact Hg
    isplitl [Ho]; · iexact Ho
    isplitl [Ht] <;> iassumption
  iexact Hk

end Transfers

/-! ## The body, in phases -/

section Phases
variable (h0 : xM.IsWhole) (h1 : wqM.IsWhole) (h2 : woM.IsWhole) (h3 : kM.IsWhole) (h4 : vM.IsWhole) (h5 : oM.IsWhole)
  (h6 : gM.IsWhole) (h7 : sM.IsWhole) (h8 : rM.IsWhole)

/-- What device `c` spends on telling the device `k + 1` places on. -/
def tellPay (k : Fin 3) : sProp 𝕄 := iprop(tokB c k ∗ free gM k.rev c ∗ free rM k.rev c)

/-- The first signals, to the next two devices. -/
theorem run_part1 {Q : (Σ' (_ : Dev nD) (_ : BitVec 32) (_ : Sems sig S_) (_ : BitVec 32) (_ : BitVec 32), BitVec 1) → sProp 𝕄} :
    iprop(know I κ c ∗ debt c (dues c) ∗ tellPay c 0 ∗ tellPay c 1)
      ⊢ iprop((∀ v2 v30 c4 v31, debt c ((bar (sh 2 c), 1) :: duesX c) -∗ Q ⟨c, v2, SemArray.scalar (sig.barrier 0 rfl), v30, c4, v31⟩)
        -∗ 𝕎 𝔼 Set.univ (k0_part1 xM h0 wqM h1 woM h2 kM h3 vM h4 oM h5 gM h6 sM h7 rM h8 cc0_scratch3 cc0_scratch4 cc0_scratch5 cc0_scratch6) Q) := by
  rw [k0_part1_eq_skeleton]
  unfold k0_part1_skel know
  simp only [semSignalWord, Prog.lift, Prog.bind_op, Prog.bind_ret, Prog.pure_eq_ret, wp_deviceId]
  iintro ⟨⟨#HR, #HB, #HL⟩, HO, Ht0, Ht1⟩ Hk
  iapply (wp_tell I κ c 0 _ (dev1_eq c) ((bar (sh 1 c), 1) :: (bar (sh 2 c), 1) :: duesX c)) $$ [HO Ht0]
  · unfold dues tellPay; iframe HR HB HO Ht0
  iintro HO
  iapply (wp_tell I κ c 1 _ (dev2_eq c) ((bar (sh 2 c), 1) :: duesX c)) $$ [HO Ht1]
  · unfold tellPay; iframe HR HB HO Ht1
  iintro HO
  rw [wp_ret]; imodintro
  iapply Hk; iexact HO

/-- The last signal, and the wait for the three signals of the others. -/
theorem run_part2 (v2 v30 c4 : BitVec 32) (v31 : BitVec 1) {Q : (Σ' (_ : BitVec 32) (_ : BitVec 32), BitVec 32) → sProp 𝕄} :
    iprop(know I κ c ∗ debt c ((bar (sh 2 c), 1) :: duesX c) ∗ tellPay c 2 ∗ cred (tallyAt (bar c) () 3) ∗ atPos ER (bar c) 0 ∅ 0)
      ⊢ iprop((∀ r, (debt c (duesX c) ∗ semVal (bar c) 0 ∗ barPay c 0 ∗ barPay c 1 ∗ barPay c 2) -∗ Q r)
        -∗ 𝕎 𝔼 Set.univ (k0_part2 xM h0 wqM h1 woM h2 kM h3 vM h4 oM h5 gM h6 sM h7 rM h8 cc0_scratch3 cc0_scratch4 cc0_scratch5 cc0_scratch6 c v2
          (SemArray.scalar (sig.barrier 0 rfl)) v30 c4 v31) Q) := by
  rw [k0_part2_eq_skeleton]
  unfold k0_part2_skel know
  simp only [semSignalWord, semWaitWord, Prog.lift, Prog.bind_op, Prog.bind_ret, Prog.pure_eq_ret]
  iintro ⟨⟨#HR, #HB, #HL⟩, HO, Ht, Hc, Hat⟩ Hk
  iapply (wp_tell I κ c 2 _ (dev3_eq c) (duesX c)) $$ [HO Ht]
  · unfold tellPay; iframe HR HB HO Ht
  iintro HO
  iapply (wp_gather I κ c (duesX c) (above_bar c)) $$ [HO Hc Hat]
  · iframe HR HL Hc HO Hat
  iintro H
  rw [wp_ret]; imodintro
  iapply Hk; iexact H

theorem run_part3 (v2 v65 : BitVec 32)
    {Q : (Σ' (_ : BitVec 32) (_ : BitVec 32) (_ : BitVec 32) (_ : BitVec 32), BitVec 32) → sProp 𝕄} :
    iprop(∀ r, Q r) ⊢ 𝕎 𝔼 Set.univ (k0_part3 xM h0 wqM h1 woM h2 kM h3 vM h4 oM h5 gM h6 sM h7 rM h8 cc0_scratch3 cc0_scratch4 cc0_scratch5 cc0_scratch6 v2 v65) Q := by
  rw [k0_part3_eq_skeleton]
  unfold k0_part3_skel
  simp only [Prog.pure_eq_ret]
  iintro H
  rw [wp_ret]; imodintro
  iapply H

/-- What device `c` spends on sending its rows to the device `k + 1` places on. -/
def sharePay (k : Fin 3) : sProp 𝕄 :=
  iprop(pts xM c (lent k) (I.x c) ∗ free gM k (sh k c) ∗ tokS 0 1 c k ∗ reached ER (cell (sh k c) 1 k) 0)

/-- The three copies of the own rows. -/
theorem run_part4 (v53 v64 v75 v100 v101 : BitVec 32) {Q : BitVec 32 → sProp 𝕄} :
    iprop(know I κ c ∗ debt c (duesX c) ∗ sharePay I c 0 ∗ sharePay I c 1 ∗ sharePay I c 2)
      ⊢ iprop((∀ r, (debt c (duesP c) ∗ cred (tallyAt (cell c 0 0) () N) ∗ cred (tallyAt (cell c 0 1) () N)
            ∗ cred (tallyAt (cell c 0 2) () N)) -∗ Q r)
        -∗ 𝕎 𝔼 Set.univ (k0_part4 xM h0 wqM h1 woM h2 kM h3 vM h4 oM h5 gM h6 sM h7 rM h8 cc0_scratch3 cc0_scratch4 cc0_scratch5 cc0_scratch6 c v53 v64 v75 v100 v101) Q) := by
  rw [k0_part4_eq_skeleton]
  unfold k0_part4_skel
  simp only [Prog.lift, Prog.bind_op, Prog.bind_ret, Prog.pure_eq_ret, xs0, xs1, xs2, xr0, xr1, xr2]
  iintro ⟨#HK, HO, H0, H1, H2⟩ Hk
  iapply (wp_share I κ c 0 _ (dev4_eq c) ((cell (sh 1 c) 1 1, N) :: (cell (sh 2 c) 1 2, N) :: duesP c)) $$ [HO H0]
  · unfold duesX sharePay; iframe HK HO H0
  iintro ⟨Hc0, HO⟩
  iapply (wp_share I κ c 1 _ (dev5_eq c) ((cell (sh 2 c) 1 2, N) :: duesP c)) $$ [HO H1]
  · unfold sharePay; iframe HK HO H1
  iintro ⟨Hc1, HO⟩
  iapply (wp_share I κ c 2 _ (dev6_eq c) (duesP c)) $$ [HO H2]
  · unfold sharePay; iframe HK HO H2
  iintro ⟨Hc2, HO⟩
  rw [wp_ret]; imodintro
  iapply Hk; iframe HO Hc0 Hc1 Hc2

end Phases

/-! ## What the body stores -/

theorem own_cast : partialOut (shapeCast S512x1024 (I.x c) shapeCasts_S512x1024_S512x1024) (I.wq c) (I.k c) (I.v c) (I.wo c)
    = own I c c := by rw [shapeCast_self]; rfl

/-- Received rows in, the partial result for their owner out. -/
theorem sent_for (j k : Fin 3) (h : un j c = sh k c) (w : Vec F S1x512x1024 .bf16)
    (hw : shapeCast S512x1024 w shapeCasts_S1x512x1024_S512x1024 = I.x (un j c)) :
    shapeCast S1x512x1024 (sent (shapeCast S512x1024 w shapeCasts_S1x512x1024_S512x1024) (I.wq c) (I.k c) (I.v c) (I.wo c))
        shapeCasts_S512x1024_S1x512x1024
      = shapeCast S1x512x1024 (give I c (sh k c)) shapeCasts_S512x1024_S1x512x1024 := by
  rw [hw, h]; rfl

theorem sum_stored (p0 p1 p2 : Vec F S1x512x1024 .bf16)
    (h0 : shapeCast S512x1024 p0 shapeCasts_S1x512x1024_S512x1024 = give I (un 0 c) c)
    (h1 : shapeCast S512x1024 p1 shapeCasts_S1x512x1024_S512x1024 = give I (un 1 c) c)
    (h2 : shapeCast S512x1024 p2 shapeCasts_S1x512x1024_S512x1024 = give I (un 2 c) c) :
    k0_pay62 (k0_pay60 (own I c c)) (k0_pay61 p0) p1 p2 = result I c := by
  rw [sum_block, h0, h1, h2, shapeCast_self]; rfl

/-! ## The parts of the body that compute and send -/

section Blocks
variable (h0 : xM.IsWhole) (h1 : wqM.IsWhole) (h2 : woM.IsWhole) (h3 : kM.IsWhole) (h4 : vM.IsWhole) (h5 : oM.IsWhole)
  (h6 : gM.IsWhole) (h7 : sM.IsWhole) (h8 : rM.IsWhole)

/-- The own rows: heads 0 and 1. -/
theorem run_part5 {Q : (Σ' (_ : FVec F S512x1024 .bf16) (_ : FVec F S512x128 .bf16) (_ : FVec F S512x128 .bf16), FVec F S512x128 .bf16) → sProp 𝕄} :
    inputs I c ⊢ iprop((inputs I c -∗ Q ⟨k0_pay1 (I.x c) (I.wq c), k0_pay2 (I.x c) (I.wq c) (row (I.k c) 0) (row (I.v c) 0), k0_pay3 (I.x c) (I.wq c) (row (I.k c) 1) (row (I.v c) 1), k0_pay4 (I.x c) (I.wq c)⟩)
        -∗ 𝕎 𝔼 Set.univ (k0_part5 xM h0 wqM h1 woM h2 kM h3 vM h4 oM h5 gM h6 sM h7 rM h8 cc0_scratch3 cc0_scratch4 cc0_scratch5 cc0_scratch6) Q) := by
  rw [k0_part5_eq_skeleton]
  unfold k0_part5_skel
  simp only [Prog.lift, Prog.bind_op, Prog.bind_ret, Prog.pure_eq_ret]
  iintro H Hk
  iapply (wp_rows I c) $$ H; iintro H; iapply (wp_wq I c) $$ H; iintro H
  iapply (wp_key I c 0) $$ H; iintro H; iapply (wp_val I c 0) $$ H; iintro H
  iapply (wp_key I c 1) $$ H; iintro H; iapply (wp_val I c 1) $$ H; iintro H
  rw [wp_ret]; imodintro
  iapply Hk; iexact H

/-- The own rows: heads 2 and 3, and the keys of head 4. -/
theorem run_part6 (v140 : FVec F S512x1024 .bf16) (v169 : FVec F S512x128 .bf16) {Q : (Σ' (_ : FVec F S512x128 .bf16) (_ : FVec F S512x128 .bf16) (_ : FVec F S512x1 .f32), FVec F S512x2048 .bf16) → sProp 𝕄} :
    inputs I c ⊢ iprop((inputs I c -∗ Q ⟨k0_pay5 v169 (row (I.k c) 2) (row (I.v c) 2), k0_pay6 v140 (row (I.k c) 3) (row (I.v c) 3), k0_pay8 v140 (row (I.k c) 4), k0_pay9 v140 (row (I.k c) 4)⟩)
        -∗ 𝕎 𝔼 Set.univ (k0_part6 xM h0 wqM h1 woM h2 kM h3 vM h4 oM h5 gM h6 sM h7 rM h8 cc0_scratch3 cc0_scratch4 cc0_scratch5 cc0_scratch6 v140 v169) Q) := by
  rw [k0_part6_eq_skeleton]
  unfold k0_part6_skel
  simp only [Prog.lift, Prog.bind_op, Prog.bind_ret, Prog.pure_eq_ret]
  iintro H Hk
  iapply (wp_key I c 2) $$ H; iintro H; iapply (wp_val I c 2) $$ H; iintro H
  iapply (wp_key I c 3) $$ H; iintro H; iapply (wp_val I c 3) $$ H; iintro H
  iapply (wp_key I c 4) $$ H; iintro H
  rw [wp_ret]; imodintro
  iapply Hk; iexact H

/-- The own rows: heads 4 to 6, and the keys of head 7. -/
theorem run_part7 (v140 : FVec F S512x1024 .bf16) (v203 : FVec F S512x1 .f32) (v204 : FVec F S512x2048 .bf16) {Q : (Σ' (_ : FVec F S512x128 .bf16) (_ : FVec F S512x128 .bf16) (_ : FVec F S512x128 .bf16) (_ : FVec F S512x128 .bf16) (_ : FVec F S2048x128 .bf16), FVec F S512x2048 .f32) → sProp 𝕄} :
    inputs I c ⊢ iprop((inputs I c -∗ Q ⟨k0_pay10 v203 v204 (row (I.v c) 4), k0_pay11 v140 (row (I.k c) 5) (row (I.v c) 5), k0_pay12 v140 (row (I.k c) 6) (row (I.v c) 6), k0_pay13 v140, k0_pay14 (row (I.k c) 7), (constant S512x2048 .f32 0x00000000#32)⟩)
        -∗ 𝕎 𝔼 Set.univ (k0_part7 xM h0 wqM h1 woM h2 kM h3 vM h4 oM h5 gM h6 sM h7 rM h8 cc0_scratch3 cc0_scratch4 cc0_scratch5 cc0_scratch6 v140 v203 v204) Q) := by
  rw [k0_part7_eq_skeleton]
  unfold k0_part7_skel
  simp only [Prog.lift, Prog.bind_op, Prog.bind_ret, Prog.pure_eq_ret]
  iintro H Hk
  iapply (wp_val I c 4) $$ H; iintro H; iapply (wp_key I c 5) $$ H; iintro H
  iapply (wp_val I c 5) $$ H; iintro H; iapply (wp_key I c 6) $$ H; iintro H
  iapply (wp_val I c 6) $$ H; iintro H; iapply (wp_key I c 7) $$ H; iintro H
  rw [wp_ret]; imodintro
  iapply Hk; iexact H

/-- The own partial result is stored; the rows of the next device arrive. -/
theorem run_part8 (v75 : BitVec 32) (v154 : FVec F S512x128 .bf16) (v168 : FVec F S512x128 .bf16) (v182 : FVec F S512x128 .bf16) (v196 : FVec F S512x128 .bf16) (v210 : FVec F S512x128 .bf16) (v224 : FVec F S512x128 .bf16) (v238 : FVec F S512x128 .bf16) (v239 : FVec F S512x128 .bf16) (v241 : FVec F S2048x128 .bf16) (cst_154 : FVec F S512x2048 .f32) (X : Vec F S512x1024 .f32)
    (hw : k0_pay15 v154 v168 v182 v196 v210 v224 v238 v239 v241 cst_154 (row (I.v c) 7) (I.wo c) = own I c c)
    {Q : (Σ' (_ : FVec F S512x1024 .bf16), FVec F S512x128 .bf16) → sProp 𝕄} :
    iprop(know I κ c ∗ inputs I c ∗ stg c cc0_stg5_0 X ∗ debt c (duesP c) ∗ cred (tallyAt (cell c 1 2) () N) ∗ at0 c 1 2)
      ⊢ iprop((∀ w, ⌜shapeCast S512x1024 w shapeCasts_S1x512x1024_S512x1024 = I.x (un 2 c)⌝ -∗
          (inputs I c ∗ stg c cc0_stg5_0 (own I c c) ∗ debt c (duesP c) ∗ semVal (cell c 1 2) 0 ∗ holds gM 2 c (I.x (un 2 c)))
            -∗ Q ⟨k0_pay16 w (I.wq c), k0_pay17 w (I.wq c)⟩)
        -∗ 𝕎 𝔼 Set.univ (k0_part8 xM h0 wqM h1 woM h2 kM h3 vM h4 oM h5 gM h6 sM h7 rM h8 cc0_scratch3 cc0_scratch4 cc0_scratch5 cc0_scratch6 v75 v154 v168 v182 v196 v210 v224 v238 v239 v241 cst_154) Q) := by
  rw [k0_part8_eq_skeleton]
  unfold k0_part8_skel
  simp only [Prog.lift, Prog.bind_op, Prog.bind_ret, Prog.pure_eq_ret, xr2]
  iintro ⟨#HK, H, Hout, HO, Hc, Ha⟩ Hk
  ihave #HR := (know_records I κ c) $$ HK
  ihave #HL := (know_lev I κ c) $$ HK
  iapply (wp_val I c 7) $$ H; iintro H; iapply (wp_wo I c) $$ H; iintro H
  iapply (wp_load_out c X) $$ Hout; iintro Hout
  iapply (wp_store_out c X _ hw) $$ Hout; iintro Hout
  iapply (wp_land I κ c 1 2 (duesP c) (above_rows c 2) (dst := (slot gM 2)) (slot_credit gM 2)
    (show dmaPay I c 1 2 = holds gM 2 c (I.x (un 2 c)) from rfl)) $$ [HO Hc Ha]
  · iframe HR HL HO Hc Ha
  iintro ⟨HO, Hv, Hg⟩
  iapply (wp_load_slot c gM 2 (I.x (un 2 c))) $$ Hg; iintro %w ⟨%hw2, Hg⟩
  iapply (wp_wq I c) $$ H; iintro H
  rw [wp_ret]; imodintro
  iapply Hk $$ %w %hw2
  iframe H Hout HO Hv Hg

/-- The rows from the next device: heads 0 to 2. -/
theorem run_part9 (v271 : FVec F S512x1024 .bf16) (v272 : FVec F S512x128 .bf16) {Q : (Σ' (_ : FVec F S512x128 .bf16) (_ : FVec F S512x128 .bf16) (_ : FVec F S512x1 .f32) (_ : FVec F S512x2048 .bf16), FVec F S2048x128 .bf16) → sProp 𝕄} :
    inputs I c ⊢ iprop((inputs I c -∗ Q ⟨k0_pay18 v272 (row (I.k c) 0) (row (I.v c) 0), k0_pay19 v271 (row (I.k c) 1) (row (I.v c) 1), k0_pay21 v271 (row (I.k c) 2), k0_pay22 v271 (row (I.k c) 2), k0_pay23 (row (I.v c) 2)⟩)
        -∗ 𝕎 𝔼 Set.univ (k0_part9 xM h0 wqM h1 woM h2 kM h3 vM h4 oM h5 gM h6 sM h7 rM h8 cc0_scratch3 cc0_scratch4 cc0_scratch5 cc0_scratch6 v271 v272) Q) := by
  rw [k0_part9_eq_skeleton]
  unfold k0_part9_skel
  simp only [Prog.lift, Prog.bind_op, Prog.bind_ret, Prog.pure_eq_ret]
  iintro H Hk
  iapply (wp_key I c 0) $$ H; iintro H; iapply (wp_val I c 0) $$ H; iintro H
  iapply (wp_key I c 1) $$ H; iintro H; iapply (wp_val I c 1) $$ H; iintro H
  iapply (wp_key I c 2) $$ H; iintro H; iapply (wp_val I c 2) $$ H; iintro H
  rw [wp_ret]; imodintro
  iapply Hk; iexact H

/-- The rows from the next device: heads 3 and 4, and the keys of head 5. -/
theorem run_part10 (v271 : FVec F S512x1024 .bf16) (v306 : FVec F S512x1 .f32) (v307 : FVec F S512x2048 .bf16) (v309 : FVec F S2048x128 .bf16) {Q : (Σ' (_ : FVec F S512x128 .bf16) (_ : FVec F S512x128 .bf16) (_ : FVec F S512x128 .bf16), FVec F S512x2048 .f32) → sProp 𝕄} :
    inputs I c ⊢ iprop((inputs I c -∗ Q ⟨k0_pay24 v306 v307 v309, k0_pay25 v271 (row (I.k c) 3) (row (I.v c) 3), k0_pay26 v271 (row (I.k c) 4) (row (I.v c) 4), k0_pay27 v271 (row (I.k c) 5)⟩)
        -∗ 𝕎 𝔼 Set.univ (k0_part10 xM h0 wqM h1 woM h2 kM h3 vM h4 oM h5 gM h6 sM h7 rM h8 cc0_scratch3 cc0_scratch4 cc0_scratch5 cc0_scratch6 v271 v306 v307 v309) Q) := by
  rw [k0_part10_eq_skeleton]
  unfold k0_part10_skel
  simp only [Prog.lift, Prog.bind_op, Prog.bind_ret, Prog.pure_eq_ret]
  iintro H Hk
  iapply (wp_key I c 3) $$ H; iintro H; iapply (wp_val I c 3) $$ H; iintro H
  iapply (wp_key I c 4) $$ H; iintro H; iapply (wp_val I c 4) $$ H; iintro H
  iapply (wp_key I c 5) $$ H; iintro H
  rw [wp_ret]; imodintro
  iapply Hk; iexact H

/-- The rows from the next device: heads 5 to 7. -/
theorem run_part11 (v271 : FVec F S512x1024 .bf16) (v346 : FVec F S512x2048 .f32) {Q : (Σ' (_ : FVec F S512x128 .bf16) (_ : FVec F S512x128 .bf16), FVec F S512x128 .bf16) → sProp 𝕄} :
    inputs I c ⊢ iprop((inputs I c -∗ Q ⟨k0_pay28 v346 (row (I.v c) 5), k0_pay29 v271 (row (I.k c) 6) (row (I.v c) 6), k0_pay30 v271 (row (I.k c) 7) (row (I.v c) 7)⟩)
        -∗ 𝕎 𝔼 Set.univ (k0_part11 xM h0 wqM h1 woM h2 kM h3 vM h4 oM h5 gM h6 sM h7 rM h8 cc0_scratch3 cc0_scratch4 cc0_scratch5 cc0_scratch6 v271 v346) Q) := by
  rw [k0_part11_eq_skeleton]
  unfold k0_part11_skel
  simp only [Prog.lift, Prog.bind_op, Prog.bind_ret, Prog.pure_eq_ret]
  iintro H Hk
  iapply (wp_val I c 5) $$ H; iintro H; iapply (wp_key I c 6) $$ H; iintro H
  iapply (wp_val I c 6) $$ H; iintro H; iapply (wp_key I c 7) $$ H; iintro H
  iapply (wp_val I c 7) $$ H; iintro H
  rw [wp_ret]; imodintro
  iapply Hk; iexact H

/-- The partial result for the next device goes out; the rows of the device before arrive. -/
theorem run_part12 (v53 : BitVec 32) (v86 : BitVec 32) (v285 : FVec F S512x128 .bf16) (v299 : FVec F S512x128 .bf16) (v313 : FVec F S512x128 .bf16) (v327 : FVec F S512x128 .bf16) (v341 : FVec F S512x128 .bf16) (v355 : FVec F S512x128 .bf16) (v369 : FVec F S512x128 .bf16) (v383 : FVec F S512x128 .bf16)
    (hw : k0_pay31 v285 v299 v313 v327 v341 v355 v369 v383 (I.wo c) = shapeCast S1x512x1024 (give I c (sh 0 c)) shapeCasts_S512x1024_S1x512x1024)
    {Q : (Σ' (_ : FVec F S512x1024 .bf16) (_ : FVec F S1024x1024 .bf16), FVec F S512x1024 .f32) → sProp 𝕄} :
    iprop(know I κ c ∗ inputs I c ∗ debt c ((cell (sh 0 c) 3 0, N) :: [(cell (sh 2 c) 3 2, N), (cell (sh 1 c) 3 1, N)]) ∗ (free sM 0 c ∗ free rM 0 (sh 0 c) ∗ tokS 2 3 c 0
        ∗ reached ER (cell (sh 0 c) 3 0) 0) ∗ cred (tallyAt (cell c 1 0) () N) ∗ at0 c 1 0)
      ⊢ iprop((∀ w, ⌜shapeCast S512x1024 w shapeCasts_S1x512x1024_S512x1024 = I.x (un 0 c)⌝ -∗
          (inputs I c ∗ debt c [(cell (sh 2 c) 3 2, N), (cell (sh 1 c) 3 1, N)] ∗ cred (tallyAt (cell c 2 0) () N) ∗ semVal (cell c 1 0) 0 ∗ holds gM 0 c (I.x (un 0 c)))
            -∗ Q ⟨k0_pay32 w, k0_pay33 (I.wq c), constant S512x1024 .f32 0x00000000#32⟩)
        -∗ 𝕎 𝔼 Set.univ (k0_part12 xM h0 wqM h1 woM h2 kM h3 vM h4 oM h5 gM h6 sM h7 rM h8 cc0_scratch3 cc0_scratch4 cc0_scratch5 cc0_scratch6 c v53 v86 v285 v299 v313 v327 v341 v355 v369 v383) Q) := by
  rw [k0_part12_eq_skeleton]
  unfold k0_part12_skel
  simp only [Prog.lift, Prog.bind_op, Prog.bind_ret, Prog.pure_eq_ret, xr0, ps0, pr0]
  iintro ⟨#HK, H, HO, ⟨Hs, Hr, Ht, Hp⟩, Hc, Ha⟩ Hk
  ihave #HR := (know_records I κ c) $$ HK
  ihave #HL := (know_lev I κ c) $$ HK
  iapply (wp_wo I c) $$ H; iintro H
  iapply (wp_load_free c sM 0) $$ Hs; iintro %old Hs
  iapply (wp_store_slot c sM 0 _ hw) $$ Hs; iintro Hs
  iapply (wp_return I κ c 0 _ (dev7_eq c) [(cell (sh 2 c) 3 2, N), (cell (sh 1 c) 3 1, N)]) $$ [HO Hs Hr Ht Hp]
  · iframe HK Hs Hr HO Ht Hp
  iintro ⟨Hcs, HO⟩
  iapply (wp_land I κ c 1 0 [(cell (sh 2 c) 3 2, N), (cell (sh 1 c) 3 1, N)] (above_rest c 0) (dst := (slot gM 0)) (slot_credit gM 0)
    (show dmaPay I c 1 0 = holds gM 0 c (I.x (un 0 c)) from rfl)) $$ [HO Hc Ha]
  · iframe HR HL HO Hc Ha
  iintro ⟨HO, Hv, Hg⟩
  iapply (wp_load_slot c gM 0 (I.x (un 0 c))) $$ Hg; iintro %w ⟨%hw0, Hg⟩
  iapply (wp_wq I c) $$ H; iintro H
  rw [wp_ret]; imodintro
  iapply Hk $$ %w %hw0
  iframe H HO Hcs Hv Hg

/-- The rows from the device before: heads 0 and 1, and the keys of head 2. -/
theorem run_part13 (v409 : FVec F S512x1024 .bf16) (v411 : FVec F S1024x1024 .bf16) (cst_279 : FVec F S512x1024 .f32) {Q : (Σ' (_ : FVec F S512x1024 .bf16) (_ : FVec F S512x128 .bf16) (_ : FVec F S512x128 .bf16), FVec F S512x2048 .f32) → sProp 𝕄} :
    inputs I c ⊢ iprop((inputs I c -∗ Q ⟨k0_pay34 v409 v411 cst_279, k0_pay35 v409 v411 cst_279 (row (I.k c) 0) (row (I.v c) 0), k0_pay36 v409 v411 cst_279 (row (I.k c) 1) (row (I.v c) 1), k0_pay37 v409 v411 cst_279 (row (I.k c) 2)⟩)
        -∗ 𝕎 𝔼 Set.univ (k0_part13 xM h0 wqM h1 woM h2 kM h3 vM h4 oM h5 gM h6 sM h7 rM h8 cc0_scratch3 cc0_scratch4 cc0_scratch5 cc0_scratch6 v409 v411 cst_279) Q) := by
  rw [k0_part13_eq_skeleton]
  unfold k0_part13_skel
  simp only [Prog.lift, Prog.bind_op, Prog.bind_ret, Prog.pure_eq_ret]
  iintro H Hk
  iapply (wp_key I c 0) $$ H; iintro H; iapply (wp_val I c 0) $$ H; iintro H
  iapply (wp_key I c 1) $$ H; iintro H; iapply (wp_val I c 1) $$ H; iintro H
  iapply (wp_key I c 2) $$ H; iintro H
  rw [wp_ret]; imodintro
  iapply Hk; iexact H

/-- The rows from the device before: heads 2 to 4. -/
theorem run_part14 (v415 : FVec F S512x1024 .bf16) (v448 : FVec F S512x2048 .f32) {Q : (Σ' (_ : FVec F S512x128 .bf16) (_ : FVec F S512x128 .bf16), FVec F S512x128 .bf16) → sProp 𝕄} :
    inputs I c ⊢ iprop((inputs I c -∗ Q ⟨k0_pay38 v448 (row (I.v c) 2), k0_pay39 v415 (row (I.k c) 3) (row (I.v c) 3), k0_pay40 v415 (row (I.k c) 4) (row (I.v c) 4)⟩)
        -∗ 𝕎 𝔼 Set.univ (k0_part14 xM h0 wqM h1 woM h2 kM h3 vM h4 oM h5 gM h6 sM h7 rM h8 cc0_scratch3 cc0_scratch4 cc0_scratch5 cc0_scratch6 v415 v448) Q) := by
  rw [k0_part14_eq_skeleton]
  unfold k0_part14_skel
  simp only [Prog.lift, Prog.bind_op, Prog.bind_ret, Prog.pure_eq_ret]
  iintro H Hk
  iapply (wp_val I c 2) $$ H; iintro H; iapply (wp_key I c 3) $$ H; iintro H
  iapply (wp_val I c 3) $$ H; iintro H; iapply (wp_key I c 4) $$ H; iintro H
  iapply (wp_val I c 4) $$ H; iintro H
  rw [wp_ret]; imodintro
  iapply Hk; iexact H

/-- The rows from the device before: heads 5 and 6, and the keys of head 7. -/
theorem run_part15 (v415 : FVec F S512x1024 .bf16) {Q : (Σ' (_ : FVec F S512x128 .bf16) (_ : FVec F S512x128 .bf16) (_ : FVec F S512x1 .f32), FVec F S512x2048 .bf16) → sProp 𝕄} :
    inputs I c ⊢ iprop((inputs I c -∗ Q ⟨k0_pay41 v415 (row (I.k c) 5) (row (I.v c) 5), k0_pay42 v415 (row (I.k c) 6) (row (I.v c) 6), k0_pay44 v415 (row (I.k c) 7), k0_pay45 v415 (row (I.k c) 7)⟩)
        -∗ 𝕎 𝔼 Set.univ (k0_part15 xM h0 wqM h1 woM h2 kM h3 vM h4 oM h5 gM h6 sM h7 rM h8 cc0_scratch3 cc0_scratch4 cc0_scratch5 cc0_scratch6 v415) Q) := by
  rw [k0_part15_eq_skeleton]
  unfold k0_part15_skel
  simp only [Prog.lift, Prog.bind_op, Prog.bind_ret, Prog.pure_eq_ret]
  iintro H Hk
  iapply (wp_key I c 5) $$ H; iintro H; iapply (wp_val I c 5) $$ H; iintro H
  iapply (wp_key I c 6) $$ H; iintro H; iapply (wp_val I c 6) $$ H; iintro H
  iapply (wp_key I c 7) $$ H; iintro H
  rw [wp_ret]; imodintro
  iapply Hk; iexact H

/-- The partial result for the device before goes out; the rows of the device across arrive. -/
theorem run_part16 (v64 : BitVec 32) (v108 : BitVec 32) (v429 : FVec F S512x128 .bf16) (v443 : FVec F S512x128 .bf16) (v457 : FVec F S512x128 .bf16) (v471 : FVec F S512x128 .bf16) (v485 : FVec F S512x128 .bf16) (v499 : FVec F S512x128 .bf16) (v513 : FVec F S512x128 .bf16) (v520 : FVec F S512x1 .f32) (v521 : FVec F S512x2048 .bf16)
    (hw : k0_pay46 v429 v443 v457 v471 v485 v499 v513 v520 v521 (row (I.v c) 7) (I.wo c) = shapeCast S1x512x1024 (give I c (sh 2 c)) shapeCasts_S512x1024_S1x512x1024)
    {Q : (PUnit) → sProp 𝕄} :
    iprop(know I κ c ∗ inputs I c ∗ debt c ((cell (sh 2 c) 3 2, N) :: [(cell (sh 1 c) 3 1, N)]) ∗ (free sM 2 c ∗ free rM 2 (sh 2 c) ∗ tokS 2 3 c 2
        ∗ reached ER (cell (sh 2 c) 3 2) 0) ∗ cred (tallyAt (cell c 1 1) () N) ∗ at0 c 1 1)
      ⊢ iprop(((inputs I c ∗ debt c [(cell (sh 1 c) 3 1, N)] ∗ cred (tallyAt (cell c 2 2) () N) ∗ semVal (cell c 1 1) 0 ∗ holds gM 1 c (I.x (un 1 c)))
          -∗ Q ⟨⟩)
        -∗ 𝕎 𝔼 Set.univ (k0_part16 xM h0 wqM h1 woM h2 kM h3 vM h4 oM h5 gM h6 sM h7 rM h8 cc0_scratch3 cc0_scratch4 cc0_scratch5 cc0_scratch6 c v64 v108 v429 v443 v457 v471 v485 v499 v513 v520 v521) Q) := by
  rw [k0_part16_eq_skeleton]
  unfold k0_part16_skel
  simp only [Prog.lift, Prog.bind_op, Prog.bind_ret, Prog.pure_eq_ret, xr1, ps2, pr2]
  iintro ⟨#HK, H, HO, ⟨Hs, Hr, Ht, Hp⟩, Hc, Ha⟩ Hk
  ihave #HR := (know_records I κ c) $$ HK
  ihave #HL := (know_lev I κ c) $$ HK
  iapply (wp_val I c 7) $$ H; iintro H; iapply (wp_wo I c) $$ H; iintro H
  iapply (wp_load_free c sM 2) $$ Hs; iintro %old Hs
  iapply (wp_store_slot c sM 2 _ hw) $$ Hs; iintro Hs
  iapply (wp_return I κ c 2 _ (dev8_eq c) [(cell (sh 1 c) 3 1, N)]) $$ [HO Hs Hr Ht Hp]
  · iframe HK Hs Hr HO Ht Hp
  iintro ⟨Hcs, HO⟩
  iapply (wp_land I κ c 1 1 [(cell (sh 1 c) 3 1, N)] (above_last c 1) (dst := (slot gM 1)) (slot_credit gM 1)
    (show dmaPay I c 1 1 = holds gM 1 c (I.x (un 1 c)) from rfl)) $$ [HO Hc Ha]
  · iframe HR HL HO Hc Ha
  iintro ⟨HO, Hv, Hg⟩
  rw [wp_ret]; imodintro
  iapply Hk
  iframe H HO Hcs Hv Hg

/-- The rows from the device across: heads 0 and 1. -/
theorem run_part17 {Q : (Σ' (_ : FVec F S512x1024 .bf16) (_ : FVec F S512x128 .bf16), FVec F S512x128 .bf16) → sProp 𝕄} :
    iprop(inputs I c ∗ holds gM 1 c (I.x (un 1 c)))
      ⊢ iprop((∀ w, ⌜shapeCast S512x1024 w shapeCasts_S1x512x1024_S512x1024 = I.x (un 1 c)⌝ -∗
          (inputs I c ∗ holds gM 1 c (I.x (un 1 c))) -∗ Q ⟨k0_pay47 w (I.wq c), k0_pay48 w (I.wq c) (row (I.k c) 0) (row (I.v c) 0), k0_pay49 w (I.wq c) (row (I.k c) 1) (row (I.v c) 1)⟩)
        -∗ 𝕎 𝔼 Set.univ (k0_part17 xM h0 wqM h1 woM h2 kM h3 vM h4 oM h5 gM h6 sM h7 rM h8 cc0_scratch3 cc0_scratch4 cc0_scratch5 cc0_scratch6) Q) := by
  rw [k0_part17_eq_skeleton]
  unfold k0_part17_skel
  simp only [Prog.lift, Prog.bind_op, Prog.bind_ret, Prog.pure_eq_ret]
  iintro ⟨H, Hg⟩ Hk
  iapply (wp_load_slot c gM 1 (I.x (un 1 c))) $$ Hg; iintro %w ⟨%hw, Hg⟩
  iapply (wp_wq I c) $$ H; iintro H; iapply (wp_key I c 0) $$ H; iintro H
  iapply (wp_val I c 0) $$ H; iintro H; iapply (wp_key I c 1) $$ H; iintro H
  iapply (wp_val I c 1) $$ H; iintro H
  rw [wp_ret]; imodintro
  iapply Hk $$ %w %hw
  iframe H Hg

/-- The rows from the device across: heads 2 and 3, and the keys of head 4. -/
theorem run_part18 (v559 : FVec F S512x1024 .bf16) {Q : (Σ' (_ : FVec F S512x128 .bf16) (_ : FVec F S512x128 .bf16) (_ : FVec F S512x1 .f32), FVec F S512x2048 .bf16) → sProp 𝕄} :
    inputs I c ⊢ iprop((inputs I c -∗ Q ⟨k0_pay50 v559 (row (I.k c) 2) (row (I.v c) 2), k0_pay51 v559 (row (I.k c) 3) (row (I.v c) 3), k0_pay53 v559 (row (I.k c) 4), k0_pay54 v559 (row (I.k c) 4)⟩)
        -∗ 𝕎 𝔼 Set.univ (k0_part18 xM h0 wqM h1 woM h2 kM h3 vM h4 oM h5 gM h6 sM h7 rM h8 cc0_scratch3 cc0_scratch4 cc0_scratch5 cc0_scratch6 v559) Q) := by
  rw [k0_part18_eq_skeleton]
  unfold k0_part18_skel
  simp only [Prog.lift, Prog.bind_op, Prog.bind_ret, Prog.pure_eq_ret]
  iintro H Hk
  iapply (wp_key I c 2) $$ H; iintro H; iapply (wp_val I c 2) $$ H; iintro H
  iapply (wp_key I c 3) $$ H; iintro H; iapply (wp_val I c 3) $$ H; iintro H
  iapply (wp_key I c 4) $$ H; iintro H
  rw [wp_ret]; imodintro
  iapply Hk; iexact H

/-- The rows from the device across: heads 4 to 6, and the keys of head 7. -/
theorem run_part19 (v559 : FVec F S512x1024 .bf16) (v622 : FVec F S512x1 .f32) (v623 : FVec F S512x2048 .bf16) {Q : (Σ' (_ : FVec F S512x128 .bf16) (_ : FVec F S512x128 .bf16) (_ : FVec F S512x128 .bf16) (_ : FVec F S512x128 .bf16), Vec F S1x2048x128 .bf16) → sProp 𝕄} :
    inputs I c ⊢ iprop((inputs I c -∗ Q ⟨k0_pay55 v622 v623 (row (I.v c) 4), k0_pay56 v559 (row (I.k c) 5) (row (I.v c) 5), k0_pay57 v559 (row (I.k c) 6) (row (I.v c) 6), k0_pay58 v559, (row (I.k c) 7)⟩)
        -∗ 𝕎 𝔼 Set.univ (k0_part19 xM h0 wqM h1 woM h2 kM h3 vM h4 oM h5 gM h6 sM h7 rM h8 cc0_scratch3 cc0_scratch4 cc0_scratch5 cc0_scratch6 v559 v622 v623) Q) := by
  rw [k0_part19_eq_skeleton]
  unfold k0_part19_skel
  simp only [Prog.lift, Prog.bind_op, Prog.bind_ret, Prog.pure_eq_ret]
  iintro H Hk
  iapply (wp_val I c 4) $$ H; iintro H; iapply (wp_key I c 5) $$ H; iintro H
  iapply (wp_val I c 5) $$ H; iintro H; iapply (wp_key I c 6) $$ H; iintro H
  iapply (wp_val I c 6) $$ H; iintro H; iapply (wp_key I c 7) $$ H; iintro H
  rw [wp_ret]; imodintro
  iapply Hk; iexact H

/-- The partial result for the device across goes out. -/
theorem run_part20 (v86 : BitVec 32) (v97 : BitVec 32) (v573 : FVec F S512x128 .bf16) (v587 : FVec F S512x128 .bf16) (v601 : FVec F S512x128 .bf16) (v615 : FVec F S512x128 .bf16) (v629 : FVec F S512x128 .bf16) (v643 : FVec F S512x128 .bf16) (v657 : FVec F S512x128 .bf16) (v658 : FVec F S512x128 .bf16) (v659 : Vec F S1x2048x128 .bf16)
    (hw : k0_pay59 v573 v587 v601 v615 v629 v643 v657 v658 v659 (row (I.v c) 7) (I.wo c) = shapeCast S1x512x1024 (give I c (sh 1 c)) shapeCasts_S512x1024_S1x512x1024)
    {Q : (BitVec 32) → sProp 𝕄} :
    iprop(know I κ c ∗ inputs I c ∗ debt c ((cell (sh 1 c) 3 1, N) :: []) ∗ (free sM 1 c ∗ free rM 1 (sh 1 c) ∗ tokS 2 3 c 1
        ∗ reached ER (cell (sh 1 c) 3 1) 0))
      ⊢ iprop((∀ r, (inputs I c ∗ debt c [] ∗ cred (tallyAt (cell c 2 1) () N)) -∗ Q r)
        -∗ 𝕎 𝔼 Set.univ (k0_part20 xM h0 wqM h1 woM h2 kM h3 vM h4 oM h5 gM h6 sM h7 rM h8 cc0_scratch3 cc0_scratch4 cc0_scratch5 cc0_scratch6 c v86 v97 v573 v587 v601 v615 v629 v643 v657 v658 v659) Q) := by
  rw [k0_part20_eq_skeleton]
  unfold k0_part20_skel
  simp only [Prog.lift, Prog.bind_op, Prog.bind_ret, Prog.pure_eq_ret, ps1, pr1]
  iintro ⟨#HK, H, HO, ⟨Hs, Hr, Ht, Hp⟩⟩ Hk
  iapply (wp_val I c 7) $$ H; iintro H; iapply (wp_wo I c) $$ H; iintro H
  iapply (wp_load_free c sM 1) $$ Hs; iintro %old Hs
  iapply (wp_store_slot c sM 1 _ hw) $$ Hs; iintro Hs
  iapply (wp_return I κ c 1 _ (dev9_eq c) []) $$ [HO Hs Hr Ht Hp]
  · iframe HK Hs Hr HO Ht Hp
  iintro ⟨Hcs, HO⟩
  rw [wp_ret]; imodintro
  iapply Hk
  iframe H HO Hcs

/-- The three partial results computed elsewhere arrive. -/
theorem run_part21 (v97 : BitVec 32) (v108 : BitVec 32) (v690 : BitVec 32) {Q : (Σ' (_ : FVec F S512x1024 .f32), FVec F S512x1024 .bf16) → sProp 𝕄} :
    iprop(know I κ c ∗ stg c cc0_stg5_0 (own I c c) ∗ debt c [] ∗ (cred (tallyAt (cell c 3 0) () N) ∗ at0 c 3 0) ∗ (cred (tallyAt (cell c 3 1) () N) ∗ at0 c 3 1) ∗ (cred (tallyAt (cell c 3 2) () N) ∗ at0 c 3 2))
      ⊢ iprop((∀ w, ⌜shapeCast S512x1024 w shapeCasts_S1x512x1024_S512x1024 = give I (un 0 c) c⌝ -∗
          (stg c cc0_stg5_0 (own I c c) ∗ debt c []
            ∗ (semVal (cell c 3 0) 0 ∗ holds rM 0 c (give I (un 0 c) c)) ∗ (semVal (cell c 3 1) 0 ∗ holds rM 1 c (give I (un 1 c) c)) ∗ (semVal (cell c 3 2) 0 ∗ holds rM 2 c (give I (un 2 c) c)))
            -∗ Q ⟨k0_pay60 (own I c c), k0_pay61 w⟩)
        -∗ 𝕎 𝔼 Set.univ (k0_part21 xM h0 wqM h1 woM h2 kM h3 vM h4 oM h5 gM h6 sM h7 rM h8 cc0_scratch3 cc0_scratch4 cc0_scratch5 cc0_scratch6 v97 v108 v690) Q) := by
  rw [k0_part21_eq_skeleton]
  unfold k0_part21_skel
  simp only [Prog.lift, Prog.bind_op, Prog.bind_ret, Prog.pure_eq_ret, pr0, pr1, pr2]
  iintro ⟨#HK, Hout, HO, ⟨Hc0, Ha0⟩, ⟨Hc1, Ha1⟩, ⟨Hc2, Ha2⟩⟩ Hk
  ihave #HR := (know_records I κ c) $$ HK
  ihave #HL := (know_lev I κ c) $$ HK
  iapply (wp_land I κ c 3 0 [] (above_nil _) (dst := (slot rM 0)) (slot_credit rM 0)
    (show dmaPay I c 3 0 = holds rM 0 c (give I (un 0 c) c) from rfl)) $$ [HO Hc0 Ha0]
  · iframe HR HL HO Hc0 Ha0
  iintro ⟨HO, Hv0, Hr0⟩
  iapply (wp_land I κ c 3 1 [] (above_nil _) (dst := (slot rM 1)) (slot_credit rM 1)
    (show dmaPay I c 3 1 = holds rM 1 c (give I (un 1 c) c) from rfl)) $$ [HO Hc1 Ha1]
  · iframe HR HL HO Hc1 Ha1
  iintro ⟨HO, Hv1, Hr1⟩
  iapply (wp_land I κ c 3 2 [] (above_nil _) (dst := (slot rM 2)) (slot_credit rM 2)
    (show dmaPay I c 3 2 = holds rM 2 c (give I (un 2 c) c) from rfl)) $$ [HO Hc2 Ha2]
  · iframe HR HL HO Hc2 Ha2
  iintro ⟨HO, Hv2, Hr2⟩
  iapply (wp_load_out c (own I c c)) $$ Hout; iintro Hout
  iapply (wp_load_slot c rM 0 (give I (un 0 c) c)) $$ Hr0; iintro %w ⟨%hw, Hr0⟩
  rw [wp_ret]; imodintro
  iapply Hk $$ %w %hw
  iframe Hout HO Hv0 Hr0 Hv1 Hr1 Hv2 Hr2

/-- The sum is stored, and the copies of the own rows have all left. -/
theorem run_part22 (p0 : Vec F S1x512x1024 .bf16)
    (hp0 : shapeCast S512x1024 p0 shapeCasts_S1x512x1024_S512x1024 = give I (un 0 c) c) {Q : (PUnit) → sProp 𝕄} :
    iprop(know I κ c ∗ stg c cc0_stg5_0 (own I c c) ∗ debt c [] ∗ holds rM 1 c (give I (un 1 c) c) ∗ holds rM 2 c (give I (un 2 c) c)
        ∗ (cred (tallyAt (cell c 0 0) () N) ∗ at0 c 0 0) ∗ (cred (tallyAt (cell c 0 1) () N) ∗ at0 c 0 1) ∗ (cred (tallyAt (cell c 0 2) () N) ∗ at0 c 0 2))
      ⊢ iprop(((stg c cc0_stg5_0 (result I c) ∗ debt c [] ∗ holds rM 1 c (give I (un 1 c) c) ∗ holds rM 2 c (give I (un 2 c) c)
            ∗ (semVal (cell c 0 0) 0 ∗ pts xM c (lent 0) (I.x c)) ∗ (semVal (cell c 0 1) 0 ∗ pts xM c (lent 1) (I.x c)) ∗ (semVal (cell c 0 2) 0 ∗ pts xM c (lent 2) (I.x c)))
            -∗ Q ⟨⟩)
        -∗ 𝕎 𝔼 Set.univ (k0_part22 xM h0 wqM h1 woM h2 kM h3 vM h4 oM h5 gM h6 sM h7 rM h8 cc0_scratch3 cc0_scratch4 cc0_scratch5 cc0_scratch6 (k0_pay60 (own I c c)) (k0_pay61 p0)) Q) := by
  rw [k0_part22_eq_skeleton]
  unfold k0_part22_skel
  simp only [Prog.lift, Prog.bind_op, Prog.bind_ret, Prog.pure_eq_ret, xs0, xs1, xs2]
  iintro ⟨#HK, Hout, HO, Hr1, Hr2, ⟨Hc0, Ha0⟩, ⟨Hc1, Ha1⟩, ⟨Hc2, Ha2⟩⟩ Hk
  ihave #HR := (know_records I κ c) $$ HK
  ihave #HL := (know_lev I κ c) $$ HK
  iapply (wp_load_slot c rM 1 (give I (un 1 c) c)) $$ Hr1; iintro %p1 ⟨%hp1, Hr1⟩
  iapply (wp_load_slot c rM 2 (give I (un 2 c) c)) $$ Hr2; iintro %p2 ⟨%hp2, Hr2⟩
  iapply (wp_load_out c (own I c c)) $$ Hout; iintro Hout
  iapply (wp_store_out c (own I c c) _ (sum_stored I c p0 p1 p2 hp0 hp1 hp2)) $$ Hout; iintro Hout
  iapply (wp_land I κ c 0 0 [] (above_nil _) (dst := xM) (rows_credit)
    (show dmaPay I c 0 0 = pts xM c (lent 0) (I.x c) from rfl)) $$ [HO Hc0 Ha0]
  · iframe HR HL HO Hc0 Ha0
  iintro ⟨HO, Hv0, Hx0⟩
  iapply (wp_land I κ c 0 1 [] (above_nil _) (dst := xM) (rows_credit)
    (show dmaPay I c 0 1 = pts xM c (lent 1) (I.x c) from rfl)) $$ [HO Hc1 Ha1]
  · iframe HR HL HO Hc1 Ha1
  iintro ⟨HO, Hv1, Hx1⟩
  iapply (wp_land I κ c 0 2 [] (above_nil _) (dst := xM) (rows_credit)
    (show dmaPay I c 0 2 = pts xM c (lent 2) (I.x c) from rfl)) $$ [HO Hc2 Ha2]
  · iframe HR HL HO Hc2 Ha2
  iintro ⟨HO, Hv2, Hx2⟩
  rw [wp_ret]; imodintro
  iapply Hk
  iframe Hout HO Hr1 Hr2 Hv0 Hx0 Hv1 Hx1 Hv2 Hx2

end Blocks

/-! ## The whole body -/

/-- One assertion for each of the three partners. -/
def trio (P : Fin 3 → sProp 𝕄) : sProp 𝕄 := iprop(P 0 ∗ P 1 ∗ P 2)

/-- What device `c` starts the body with. -/
def talkPre : sProp 𝕄 :=
  iprop(know I κ c ∗ debt c (dues c) ∗ cred (tallyAt (bar c) () 3) ∗ atPos ER (bar c) 0 ∅ 0
    ∗ trio (tokB c) ∗ trio (tokS 0 1 c) ∗ trio (tokS 2 3 c)
    ∗ trio (fun k => cred (tallyAt (cell c 1 k) () N)) ∗ trio (fun k => cred (tallyAt (cell c 3 k) () N))
    ∗ trio (at0 c 0) ∗ trio (at0 c 1) ∗ trio (at0 c 2) ∗ trio (at0 c 3)
    ∗ trio (fun k => free gM k c) ∗ trio (fun k => free sM k c) ∗ trio (fun k => free rM k c)
    ∗ stg c cc0_stg0_0 (I.x c) ∗ stg c cc0_stg1_0 (I.wq c) ∗ stg c cc0_stg2_0 (I.wo c) ∗ stg c cc0_stg3_0 (I.k c)
    ∗ stg c cc0_stg4_0 (I.v c) ∗ ∃ X : Vec F S512x1024 .f32, stg c cc0_stg5_0 X)

/-- What device `c` ends the body with. -/
def talkPost : sProp 𝕄 :=
  iprop(debt c [] ∗ semVal (bar c) 0
    ∗ trio (fun k => semVal (cell c 0 k) 0) ∗ trio (fun k => semVal (cell c 1 k) 0) ∗ trio (fun k => semVal (cell c 2 k) 0)
    ∗ trio (fun k => semVal (cell c 3 k) 0)
    ∗ trio (fun k => free gM k c) ∗ trio (fun k => free sM k c) ∗ trio (fun k => free rM k c)
    ∗ stg c cc0_stg0_0 (I.x c) ∗ stg c cc0_stg1_0 (I.wq c) ∗ stg c cc0_stg2_0 (I.wo c) ∗ stg c cc0_stg3_0 (I.k c)
    ∗ stg c cc0_stg4_0 (I.v c) ∗ stg c cc0_stg5_0 (result I c))

theorem holds_free (M : Memref sig .tc .vmem S3x512x1024 .bf16) (k : Fin 3) (X : FVec F S512x1024 .bf16) : holds M k c X ⊢ free M k c := by
  unfold holds free
  iintro ⟨%f, -, H⟩
  iexists f; iexact H

set_option maxHeartbeats 4000000 in
theorem run_body (h0 : xM.IsWhole) (h1 : wqM.IsWhole) (h2 : woM.IsWhole) (h3 : kM.IsWhole) (h4 : vM.IsWhole) (h5 : oM.IsWhole)
    (h6 : gM.IsWhole) (h7 : sM.IsWhole) (h8 : rM.IsWhole) {Q : PUnit → sProp 𝕄} :
    talkPre I κ c ⊢ iprop((talkPost I c -∗ Q ⟨⟩) -∗ 𝕎 𝔼 Set.univ (cc0__body xM h0 wqM h1 woM h2 kM h3 vM h4 oM h5 gM h6 sM h7 rM h8 cc0_scratch3 cc0_scratch4 cc0_scratch5 cc0_scratch6) Q) := by
  unfold talkPre trio
  iintro ⟨#HK, HO, Hcb, Hab, ⟨Htb0, Htb1, Htb2⟩, ⟨Htx0, Htx1, Htx2⟩, ⟨Htp0, Htp1, Htp2⟩, ⟨Hcx0, Hcx1, Hcx2⟩, ⟨Hcp0, Hcp1, Hcp2⟩,
    ⟨Has0, Has1, Has2⟩, ⟨Hax0, Hax1, Hax2⟩, ⟨Hap0, Hap1, Hap2⟩, ⟨Har0, Har1, Har2⟩, ⟨Hg0, Hg1, Hg2⟩, ⟨Hs0, Hs1, Hs2⟩, ⟨Hr0, Hr1, Hr2⟩, Hx, Hwq, Hwo, Hk, Hv, ⟨%X, Hout⟩⟩ Hend
  ihave Hx := (x_quarters c (I.x c)).1 $$ [Hx]
  · unfold pts; rw [View.set_whole]; iexact Hx
  icases Hx with ⟨⟨Hx0', Hx1'⟩, ⟨Hx2', Hx⟩⟩
  ihave H : inputs I c $$ [Hx Hwq Hwo Hk Hv]
  · unfold inputs; iframe Hx Hwq Hwo Hk Hv
  ihave #HR := (know_records I κ c) $$ HK
  ihave #HL := (know_lev I κ c) $$ HK
  rw [cc0__body_eq_skeleton]
  unfold cc0__body_skel
  rw [wp_bind, k0_part23_eq_skeleton]
  unfold k0_part23_skel
  rw [wp_bind]
  iapply (run_part1 I κ c) $$ [HO Htb0 Hg2 Hr2 Htb1 Hg1 Hr1]
  · unfold tellPay
    isplitr; · iexact HK
    isplitl [HO]; · iexact HO
    isplitl [Htb0 Hg2 Hr2]
    · isplitl [Htb0]; · iexact Htb0
      isplitl [Hg2]; · iexact Hg2
      iexact Hr2
    isplitl [Htb1]; · iexact Htb1
    isplitl [Hg1]; · iexact Hg1
    iexact Hr1
  iintro %v2 %v30 %c4 %v31 HO
  dsimp only
  rw [wp_bind]
  iapply (run_part2 I κ c) $$ [HO Htb2 Hg0 Hr0 Hcb Hab]
  · unfold tellPay
    isplitr; · iexact HK
    isplitl [HO]; · iexact HO
    isplitl [Htb2 Hg0 Hr0]
    · isplitl [Htb2]; · iexact Htb2
      isplitl [Hg0]; · iexact Hg0
      iexact Hr0
    isplitl [Hcb] <;> iassumption
  unfold barPay
  iintro %r2 ⟨HO, Hvb, ⟨⟨Hg0, Hr0⟩, #Hx0, #Hp0⟩, ⟨⟨Hg1, Hr1⟩, #Hx1, #Hp1⟩, ⟨⟨Hg2, Hr2⟩, #Hx2, #Hp2⟩⟩
  obtain ⟨v53, v64, v65⟩ := r2
  dsimp only
  rw [wp_bind]
  iapply (run_part3 c)
  iintro %r3
  obtain ⟨v75, v86, v97, v100, v101⟩ := r3
  dsimp only
  rw [wp_bind]
  iapply (run_part4 I κ c) $$ [HO Hx0' Hx1' Hx2' Hg0 Hg1 Hg2 Htx0 Htx1 Htx2]
  · unfold sharePay
    iframe HK HO Hx0' Hx1' Hx2' Hg0 Hg1 Hg2 Htx0 Htx1 Htx2 Hx0 Hx1 Hx2
  iintro %v108 ⟨HO, Hcq0, Hcq1, Hcq2⟩
  -- the own rows
  rw [wp_bind]
  iapply (run_part5 I c) $$ H; iintro H
  dsimp only
  rw [wp_bind]
  iapply (run_part6 I c) $$ H; iintro H
  dsimp only
  rw [wp_bind]
  iapply (run_part7 I c) $$ H; iintro H
  dsimp only
  rw [wp_bind]
  iapply (run_part8 I κ c (X := X) (hw := (own_block (I.x c) (I.wq c) (I.k c) (I.v c) (I.wo c)).trans (own_cast I c))) $$ [H Hout HO Hcx2 Hax2]
  · iframe HK H Hout HO Hcx2 Hax2
  iintro %w2 %hw2 ⟨H, Hout, HO, Hvx2, Hg2⟩
  dsimp only
  -- the rows of the next device
  rw [wp_bind]
  iapply (run_part9 I c) $$ H; iintro H
  dsimp only
  rw [wp_bind]
  iapply (run_part10 I c) $$ H; iintro H
  dsimp only
  rw [wp_bind]
  iapply (run_part11 I c) $$ H; iintro H
  dsimp only
  rw [wp_bind]
  iapply (run_part12 I κ c (hw := (first_block w2 (I.wq c) (I.k c) (I.v c) (I.wo c)).trans (sent_for I c 2 0 rfl w2 hw2))) $$ [H HO Hs0 Hr0 Htp0 Hcx0 Hax0]
  · unfold duesP; iframe HK H HO Hs0 Hr0 Htp0 Hp0 Hcx0 Hax0
  iintro %w0 %hw0 ⟨H, HO, Hcs0, Hvx0, Hg0⟩
  dsimp only
  -- the rows of the device before
  rw [wp_bind]
  iapply (run_part13 I c) $$ H; iintro H
  dsimp only
  rw [wp_bind]
  iapply (run_part14 I c) $$ H; iintro H
  dsimp only
  rw [wp_bind]
  iapply (run_part15 I c) $$ H; iintro H
  dsimp only
  rw [wp_bind]
  iapply (run_part16 I κ c (hw := (second_block w0 (I.wq c) (I.k c) (I.v c) (I.wo c) _ rfl).trans (sent_for I c 0 2 rfl w0 hw0))) $$ [H HO Hs2 Hr2 Htp2 Hcx1 Hax1]
  · iframe HK H HO Hs2 Hr2 Htp2 Hp2 Hcx1 Hax1
  iintro ⟨H, HO, Hcs2, Hvx1, Hg1⟩
  -- the rows of the device across
  rw [wp_bind]
  iapply (run_part17 I c) $$ [H Hg1]
  · iframe H Hg1
  iintro %w1 %hw1 ⟨H, Hg1⟩
  dsimp only
  rw [wp_bind]
  iapply (run_part18 I c) $$ H; iintro H
  dsimp only
  rw [wp_bind]
  iapply (run_part19 I c) $$ H; iintro H
  dsimp only
  rw [wp_bind]
  iapply (run_part20 I κ c (hw := (third_block w1 (I.wq c) (I.k c) (I.v c) (I.wo c)).trans (sent_for I c 1 1 rfl w1 hw1))) $$ [H HO Hs1 Hr1 Htp1]
  · iframe HK H HO Hs1 Hr1 Htp1 Hp1
  iintro %v690 ⟨H, HO, Hcs1⟩
  -- the sum
  rw [wp_bind]
  iapply (run_part21 I κ c) $$ [Hout HO Hcp0 Hcp1 Hcp2 Har0 Har1 Har2]
  · iframe HK Hout HO Hcp0 Hcp1 Hcp2 Har0 Har1 Har2
  iintro %p0 %hp0 ⟨Hout, HO, ⟨Hvr0, Hr0⟩, ⟨Hvr1, Hr1⟩, ⟨Hvr2, Hr2⟩⟩
  dsimp only
  rw [wp_bind]
  iapply (run_part22 I κ c (hp0 := hp0)) $$ [Hout HO Hr1 Hr2 Hcq0 Hcq1 Hcq2 Has0 Has1 Has2]
  · iframe HK Hout HO Hr1 Hr2 Hcq0 Hcq1 Hcq2 Has0 Has1 Has2
  iintro ⟨Hout, HO, Hr1, Hr2, ⟨Hvs0, Hx0'⟩, ⟨Hvs1, Hx1'⟩, ⟨Hvs2, Hx2'⟩⟩
  simp only [Prog.lift, Prog.bind_op, Prog.bind_ret, Prog.pure_eq_ret, ps0, ps1, ps2]
  iapply (wp_land I κ c 2 0 [] (above_nil _) (dst := slot sM 0) (slot_credit sM 0)
    (show dmaPay I c 2 0 = free sM 0 c from rfl)) $$ [HO Hcs0 Hap0]
  · iframe HR HL HO Hcs0 Hap0
  iintro ⟨HO, Hvp0, Hs0⟩
  iapply (wp_land I κ c 2 1 [] (above_nil _) (dst := slot sM 1) (slot_credit sM 1)
    (show dmaPay I c 2 1 = free sM 1 c from rfl)) $$ [HO Hcs1 Hap1]
  · iframe HR HL HO Hcs1 Hap1
  iintro ⟨HO, Hvp1, Hs1⟩
  rw [wp_ret]; imodintro
  iapply (wp_land I κ c 2 2 [] (above_nil _) (dst := slot sM 2) (slot_credit sM 2)
    (show dmaPay I c 2 2 = free sM 2 c from rfl)) $$ [HO Hcs2 Hap2]
  · iframe HR HL HO Hcs2 Hap2
  iintro ⟨HO, Hvp2, Hs2⟩
  rw [wp_ret]; imodintro
  iapply Hend
  unfold inputs
  icases H with ⟨Hx, Hwq, Hwo, Hk, Hv⟩
  ihave Hg0 := (holds_free c gM 0 _) $$ Hg0
  ihave Hg1 := (holds_free c gM 1 _) $$ Hg1
  ihave Hg2 := (holds_free c gM 2 _) $$ Hg2
  ihave Hr0 := (holds_free c rM 0 _) $$ Hr0
  ihave Hr1 := (holds_free c rM 1 _) $$ Hr1
  ihave Hr2 := (holds_free c rM 2 _) $$ Hr2
  ihave Hx : stg c cc0_stg0_0 (I.x c) $$ [Hx Hx0' Hx1' Hx2']
  · ihave H := (x_quarters c (I.x c)).2 $$ [Hx Hx0' Hx1' Hx2']
    · iframe Hx Hx0' Hx1' Hx2'
    unfold pts; rw [View.set_whole]; iexact H
  unfold talkPost trio
  iframe HO Hvb Hvs0 Hvs1 Hvs2 Hvx0 Hvx1 Hvx2 Hvp0 Hvp1 Hvp2 Hvr0 Hvr1 Hvr2 Hg0 Hg1 Hg2 Hs0 Hs1 Hs2 Hr0 Hr1 Hr2 Hx Hwq Hwo Hk Hv Hout

end Cert.Exchange
end
-- ==== Proof.Region.lean ====
module

public import proofs.«01_k».proof.Proof.Body
public import proofs.«01_k».proof.Proof.Gen.KernelIdeal.Regions
public import proofs.«01_k».proof.Proof.Gen.KernelIdeal.Points
public import Idealize.ShloMosaic.Lib.Pipeline.RegionTalk
public import Idealize.ShloMosaic.Lib.Rounds.Family
public import Idealize.ShloMosaic.Lib.Ring
public import Idealize.ShloMosaic.Lib.Pipeline.ValueKit

@[expose] public section

set_option maxRecDepth 16384

noncomputable section

/-!
The kernel call as one region of the program: what each device holds when it is entered and when it is left.
-/

namespace Cert.Exchange

open Cert.KernelIdeal Cert.KernelIdeal.Gen Cert.Model
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

/-! ## Three slots make a buffer -/

theorem three_slots (Φ : Fin 3 → sProp 𝕄) : bigSep Finset.univ Φ = trio Φ := by
  unfold trio
  exact bigSep_univ_eq_bigSepL [(0 : Fin 3), 1, 2] (by decide) (by decide) Φ

theorem four_rows (Φ : Fin 4 × Fin 3 → sProp 𝕄) :
    bigSep Finset.univ Φ = iprop(trio (fun k => Φ (0, k)) ∗ trio (fun k => Φ (1, k)) ∗ trio (fun k => Φ (2, k)) ∗ trio (fun k => Φ (3, k))) := by
  rw [bigSep_univ_prod, bigSep_univ_eq_bigSepL [(0 : Fin 4), 1, 2, 3] (by decide) (by decide)]
  show iprop(_ ∗ _ ∗ _ ∗ _) = _
  simp only [three_slots]
  rfl

abbrev slotSet (k : Fin 3) : Finset S3x512x1024.Idx := (slotR k).set

theorem slots_disjoint (k k' : Fin 3) (h : k ≠ k') : Disjoint (slotSet k) (slotSet k') :=
  Ring.lead_disjoint (s := S3x512x1024) (NB := 3) (0 : Fin 3) 1 (fun k => ![k.val, 0, 0]) S1x512x1024.size slot_inb
    (by decide) (by decide) k k' h

theorem slots_cover : Finset.univ.biUnion slotSet = Finset.univ :=
  Ring.lead_cover (s := S3x512x1024) (NB := 3) (0 : Fin 3) 1 (fun k => ![k.val, 0, 0]) S1x512x1024.size slot_inb
    (by decide) (by decide) (by decide) (by decide) (by decide)

/-- The elements of slot `k`, as elements of the buffer. -/
abbrev slotAt (M : Memref sig .tc .vmem S3x512x1024 .bf16) (k : Fin 3) : Finset M.view.ty.Idx := (slot M k).view.set

theorem slotAt_eq (M : Memref sig .tc .vmem S3x512x1024 .bf16) (k : Fin 3) : slotAt M k = (slotSet k).map M.view.emb :=
  (slot_set M k).symm

theorem slot_disjoint (M : Memref sig .tc .vmem S3x512x1024 .bf16) (k k' : Fin 3) (h : k ≠ k') : Disjoint (slotAt M k) (slotAt M k') := by
  rw [slotAt_eq, slotAt_eq]
  exact (Finset.disjoint_map _).mpr (slots_disjoint k k' h)

theorem in_some_slot (M : Memref sig .tc .vmem S3x512x1024 .bf16) (i : M.view.ty.Idx) (hi : i ∈ M.view.set) : ∃ k, i ∈ slotAt M k := by
  obtain ⟨j, -, hj⟩ := Finset.mem_map.mp hi
  obtain ⟨k, -, hk⟩ := Finset.mem_biUnion.mp ((Finset.ext_iff.mp slots_cover j).mpr (Finset.mem_univ j))
  refine ⟨k, ?_⟩
  rw [slotAt_eq, ← hj]
  exact Finset.mem_map_of_mem _ hk

theorem slot_cover (M : Memref sig .tc .vmem S3x512x1024 .bf16) (hM : ∀ i, i ∈ M.view.set) :
    Finset.univ.biUnion (slotAt M) = Finset.univ :=
  Finset.eq_univ_of_forall fun i => Finset.mem_biUnion.mpr
    ((in_some_slot M i (hM i)).imp fun k hk => ⟨Finset.mem_univ k, hk⟩)

/-- A buffer of three slots, at contents that do not matter. -/
def vacant (M : Memref sig .tc .vmem S3x512x1024 .bf16) (c : Dev nD) : sProp 𝕄 :=
  iprop(∃ f : Buf (Elt F) (M.view.loc (c : Thread nD τ)), M.view.loc (c : Thread nD τ) ↦{fullShare} f)

/-- The elements of slot `k`, held. -/
def part (M : Memref sig .tc .vmem S3x512x1024 .bf16) (c : Dev nD) (k : Fin 3) (f : Buf (Elt F) (M.view.loc (c : Thread nD τ))) : sProp 𝕄 :=
  M.view.loc (c : Thread nD τ) ↦[slotAt M k]{fullShare} f

theorem free_of_part (M : Memref sig .tc .vmem S3x512x1024 .bf16) (c : Dev nD) (k : Fin 3) (f : Buf (Elt F) (M.view.loc (c : Thread nD τ))) :
    (part M c k f : sProp 𝕄) ⊢ free M k c := by
  unfold free
  iintro H
  iexists f
  exact Entails.of_eq rfl

theorem part_of_free (M : Memref sig .tc .vmem S3x512x1024 .bf16) (c : Dev nD) (k : Fin 3) :
    (free M k c : sProp 𝕄) ⊢ iprop(∃ f, part M c k f) := by
  unfold free
  iintro ⟨%f, H⟩
  iexists f
  exact Entails.of_eq rfl

theorem parts_of_whole (M : Memref sig .tc .vmem S3x512x1024 .bf16) (hM : ∀ i, i ∈ M.view.set) (c : Dev nD)
    (f : Buf (Elt F) (M.view.loc (c : Thread nD τ))) :
    (M.view.loc (c : Thread nD τ) ↦{fullShare} f : sProp 𝕄) = trio (fun k => part M c k f) := by
  have h := Ring.pointsTo_blocks (Ix := Unit) (Name := ℕ) (U := UU) (Lvl := ℕ) (Val := Elt F) (ℓ := M.view.loc (c : Thread nD τ))
    (q := fullShare) (slotAt M) (slot_disjoint M) (slot_cover M hM) f
  rw [three_slots] at h
  exact h

theorem vacant_split (M : Memref sig .tc .vmem S3x512x1024 .bf16) (hM : ∀ i, i ∈ M.view.set) (c : Dev nD) :
    (vacant M c : sProp 𝕄) ⊢ trio (fun k => free M k c) := by
  have h (f : Buf (Elt F) (M.view.loc (c : Thread nD τ))) : (M.view.loc (c : Thread nD τ) ↦{fullShare} f : sProp 𝕄) ⊢ trio (fun k => free M k c) := by
    rw [parts_of_whole M hM c f]
    unfold trio
    exact BI.sep_mono (free_of_part M c 0 f) (BI.sep_mono (free_of_part M c 1 f) (free_of_part M c 2 f))
  unfold vacant
  iintro ⟨%f, H⟩
  iapply (h f) $$ H

theorem vacant_join (M : Memref sig .tc .vmem S3x512x1024 .bf16) (hM : ∀ i, i ∈ M.view.set) (c : Dev nD) :
    trio (fun k => free M k c) ⊢ (vacant M c : sProp 𝕄) := by
  have h (f : Buf (Elt F) (M.view.loc (c : Thread nD τ))) :=
    Ring.pointsTo_blocks_join_exists (Ix := Unit) (Name := ℕ) (U := UU) (Lvl := ℕ) (Val := Elt F) (ℓ := M.view.loc (c : Thread nD τ))
      (q := fullShare) (slotAt M) (slot_disjoint M) (slot_cover M hM) f
  have h' (f : Buf (Elt F) (M.view.loc (c : Thread nD τ))) : trio (fun k => iprop(∃ f, part M c k f)) ⊢ (vacant M c : sProp 𝕄) := by
    have := h f
    rw [three_slots] at this
    exact this
  unfold trio
  iintro ⟨H0, H⟩
  ihave H0 := (part_of_free M c 0) $$ H0
  icases H0 with ⟨%f, H0⟩
  iapply (h' f)
  unfold trio
  isplitl [H0]; · iexists f; iexact H0
  icases H with ⟨H1, H2⟩
  isplitl [H1]; · iapply (part_of_free M c 1) $$ H1
  iapply (part_of_free M c 2) $$ H2

/-! ## What the call reads and leaves -/

variable (m : (l : Loc nD τ sig) → Buf (Elt F) l)

/-- The operands of the call, device by device. -/
def blocks : Blocks F where
  x c := V1 m c main_v5
  wq c := V1 m c main_arg1
  wo c := V1 m c main_arg2
  k c := V1 m c main_v18
  v c := V1 m c main_v19

/-- What the call leaves in its result. -/
def outs : Outs (F := F) := fun _ r c => Function.update (fun r : Ref sig .tc => V1 m c r) main_v20 (result (blocks m) c) r

theorem outs_v20 (n : ℕ) (c : Dev nD) : outs m n main_v20 c = result (blocks m) c := Function.update_self ..

/-- The tokens, credits and places of the exchange, as the body takes them. -/
def entry (κ : GSem nD τ sig → ℕ) (c : Dev nD) : sProp 𝕄 :=
  iprop(know (blocks m) κ c ∗ cred (tallyAt (bar c) () 3) ∗ atPos ER (bar c) 0 ∅ 0
    ∗ trio (tokB c) ∗ trio (tokS 0 1 c) ∗ trio (tokS 2 3 c)
    ∗ trio (fun k => cred (tallyAt (cell c 1 k) () N)) ∗ trio (fun k => cred (tallyAt (cell c 3 k) () N))
    ∗ trio (at0 c 0) ∗ trio (at0 c 1) ∗ trio (at0 c 2) ∗ trio (at0 c 3))

/-- The twelve counters of the exchange, at zero. -/
def counters (c : Dev nD) : sProp 𝕄 :=
  iprop(trio (fun k => semVal (cell c 0 k) 0) ∗ trio (fun k => semVal (cell c 1 k) 0) ∗ trio (fun k => semVal (cell c 2 k) 0)
    ∗ trio (fun k => semVal (cell c 3 k) 0))

/-- The three scratch buffers, at contents not chosen. -/
def scratch (c : Dev nD) : sProp 𝕄 := iprop(vacant gM c ∗ vacant sM c ∗ vacant rM c)

def dat (c : Dev nD) : Dat τ (Elt F) Unit ℕ UU ℕ cfg0 c where
  A w := V1 m c (Proc.devRef .tc (Pipeline.arrRef cfg0.spec w))
  after w _ := match w with
    | ⟨0, _⟩ => (blocks m).x c
    | ⟨1, _⟩ => (blocks m).wq c
    | ⟨2, _⟩ => (blocks m).wo c
    | ⟨3, _⟩ => (blocks m).k c
    | ⟨4, _⟩ => (blocks m).v c
    | ⟨5, _⟩ => result (blocks m) c
  Φ t := if t.val = 0 then iprop((∃ κ, entry m κ c) ∗ scratch c ∗ ∃ r, prngReg c r)
    else iprop(semVal (bar c) 0 ∗ counters c ∗ scratch c ∗ ∃ r, prngReg c r)
  q _ := fullShare
  owed t := if t.val = 0 then owe (dues c) else owe []

def pdats : (p : Fin 1) → (c : Dev nD) → Dat τ (Elt F) Unit ℕ UU ℕ (cfgs p) c := fun _ c => dat m c

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ stg c b f) := by
  unfold owns; simp only [Memref.view_whole, View.read_whole, View.set_whole]

theorem owed_first (c : Dev nD) : (dat m c).owed t0_0.castSucc = owe (dues c) := by
  show (if (t0_0.castSucc : Fin (cfg0.N + 1)).val = 0 then owe (dues c) else owe []) = owe (dues c); exact if_pos rfl
theorem owed_last (c : Dev nD) : (dat m c).owed t0_0.succ = owe [] := by
  show (if (t0_0.succ : Fin (cfg0.N + 1)).val = 0 then owe (dues c) else owe []) = owe []; exact if_neg (Nat.succ_ne_zero _)

/-- Every window of the call starts at the first element of its array. -/
theorem start_zero : ∀ (w : Fin 6) (a), (cfg0.win w).index t0_0 a = 0 := by decide +kernel

theorem before_0 (c : Dev nD) (d) : (dat m c).before (0 : Fin 6) t0_0 d = (blocks m).x c := by
  rw [Dat.before_fetched _ _ _ (fetch0_0 _)]
  show (fun j => V1 m c main_v5 ((win0_0.blk t0_0).view.emb j)) = V1 m c main_v5
  funext j
  refine congrArg (V1 m c main_v5) (funext fun a => Fin.ext ?_)
  blk_simp
  rw [show win0_0.index t0_0 a = 0 from start_zero 0 a, Nat.zero_mul, Nat.zero_add]

theorem before_1 (c : Dev nD) (d) : (dat m c).before (1 : Fin 6) t0_0 d = (blocks m).wq c := by
  rw [Dat.before_fetched _ _ _ (fetch0_1 _)]
  show (fun j => V1 m c main_arg1 ((win0_1.blk t0_0).view.emb j)) = V1 m c main_arg1
  funext j
  refine congrArg (V1 m c main_arg1) (funext fun a => Fin.ext ?_)
  blk_simp
  rw [show win0_1.index t0_0 a = 0 from start_zero 1 a, Nat.zero_mul, Nat.zero_add]

theorem before_2 (c : Dev nD) (d) : (dat m c).before (2 : Fin 6) t0_0 d = (blocks m).wo c := by
  rw [Dat.before_fetched _ _ _ (fetch0_2 _)]
  show (fun j => V1 m c main_arg2 ((win0_2.blk t0_0).view.emb j)) = V1 m c main_arg2
  funext j
  refine congrArg (V1 m c main_arg2) (funext fun a => Fin.ext ?_)
  blk_simp
  rw [show win0_2.index t0_0 a = 0 from start_zero 2 a, Nat.zero_mul, Nat.zero_add]

theorem before_3 (c : Dev nD) (d) : (dat m c).before (3 : Fin 6) t0_0 d = (blocks m).k c := by
  rw [Dat.before_fetched _ _ _ (fetch0_3 _)]
  show (fun j => V1 m c main_v18 ((win0_3.blk t0_0).view.emb j)) = V1 m c main_v18
  funext j
  refine congrArg (V1 m c main_v18) (funext fun a => Fin.ext ?_)
  blk_simp
  rw [show win0_3.index t0_0 a = 0 from start_zero 3 a, Nat.zero_mul, Nat.zero_add]

theorem before_4 (c : Dev nD) (d) : (dat m c).before (4 : Fin 6) t0_0 d = (blocks m).v c := by
  rw [Dat.before_fetched _ _ _ (fetch0_4 _)]
  show (fun j => V1 m c main_v19 ((win0_4.blk t0_0).view.emb j)) = V1 m c main_v19
  funext j
  refine congrArg (V1 m c main_v19) (funext fun a => Fin.ext ?_)
  blk_simp
  rw [show win0_4.index t0_0 a = 0 from start_zero 4 a, Nat.zero_mul, Nat.zero_add]

theorem left_5 (c : Dev nD) : (dat m c).arrAt (5 : Fin 6) cfg0.N = result (blocks m) c := by
  refine (dat m c).arrAt_eq_of_after_last (5 : Fin 6) t0_0 (by decide +kernel) _ fun j => ?_
  blk_simp
  rfl

theorem owesAt_intro (c : Dev nD) (t : Fin (cfg0.N + 1)) (l : List (GSem nD τ sig × ℕ)) (h : (dat m c).owed t = owe l) :
    (debt c l : sProp 𝕄) ⊢ (dat m c).owesAt () t := by
  unfold debt Dat.owesAt Pipeline.owesWithin Dat.bound
  rw [h, show (dat m c).recorded t = Set.univ from rfl]
  iintro ⟨%W, HO⟩
  iexists W
  isplitr
  · ipureintro; exact fun _ _ => Or.inl trivial
  iexact HO

theorem owesAt_elim (c : Dev nD) (t : Fin (cfg0.N + 1)) (l : List (GSem nD τ sig × ℕ)) (h : (dat m c).owed t = owe l) :
    ((dat m c).owesAt () t : sProp 𝕄) ⊢ debt c l := by
  unfold debt Dat.owesAt Pipeline.owesWithin
  rw [h]
  iintro ⟨%W, -, HO⟩
  iexists W
  iexact HO

/-- A staging buffer at the given contents, as the pipeline states it. -/
abbrev at_ (c : Dev nD) (b : Ref sig .tc) (X : b.ty.Contents (Elt F)) : sProp 𝕄 :=
  iprop(∃ f : Buf (Elt F) ((c : Thread nD τ).loc b), ⌜f = X⌝ ∗ stg c b f)

theorem at_elim (c : Dev nD) (b : Ref sig .tc) (X : b.ty.Contents (Elt F)) : (at_ c b X : sProp 𝕄) ⊢ stg c b X := by
  iintro ⟨%f, %h, H⟩
  subst h
  iexact H

theorem at_intro (c : Dev nD) (b : Ref sig .tc) (X : b.ty.Contents (Elt F)) : (stg c b X : sProp 𝕄) ⊢ at_ c b X := by
  iintro H
  iexists X
  isplitr
  · ipureintro; rfl
  iexact H

def obPre (c : Dev nD) : sProp 𝕄 :=
  iprop(((∃ κ, entry m κ c) ∗ scratch c ∗ ∃ r, prngReg c r) ∗ (dat m c).owesAt () t0_0.castSucc
    ∗ (∃ d, at_ c cc0_stg0_0 ((dat m c).before (0 : Fin 6) t0_0 d)) ∗ (∃ d, at_ c cc0_stg1_0 ((dat m c).before (1 : Fin 6) t0_0 d))
    ∗ (∃ d, at_ c cc0_stg2_0 ((dat m c).before (2 : Fin 6) t0_0 d)) ∗ (∃ d, at_ c cc0_stg3_0 ((dat m c).before (3 : Fin 6) t0_0 d))
    ∗ (∃ d, at_ c cc0_stg4_0 ((dat m c).before (4 : Fin 6) t0_0 d)) ∗ (∃ d, at_ c cc0_stg5_0 ((dat m c).before (5 : Fin 6) t0_0 d)))

def obPost (c : Dev nD) : sProp 𝕄 :=
  iprop((semVal (bar c) 0 ∗ counters c ∗ scratch c ∗ ∃ r, prngReg c r) ∗ (dat m c).owesAt () t0_0.succ
    ∗ at_ c cc0_stg0_0 ((blocks m).x c) ∗ at_ c cc0_stg1_0 ((blocks m).wq c) ∗ at_ c cc0_stg2_0 ((blocks m).wo c)
    ∗ at_ c cc0_stg3_0 ((blocks m).k c) ∗ at_ c cc0_stg4_0 ((blocks m).v c) ∗ at_ c cc0_stg5_0 (result (blocks m) c))

theorem ob_pre (c : Dev nD) : obPre m c ⊢ iprop((∃ κ, talkPre (blocks m) κ c) ∗ ∃ r, prngReg c r) := by
  unfold obPre
  simp only [before_0, before_1, before_2, before_3, before_4]
  iintro ⟨⟨⟨%κ, He⟩, Hs, Hp⟩, HO, ⟨%d0, H0⟩, ⟨%d1, H1⟩, ⟨%d2, H2⟩, ⟨%d3, H3⟩, ⟨%d4, H4⟩, ⟨%d5, H5⟩⟩
  isplitr [Hp]
  · iexists κ
    ihave HO := (owesAt_elim m c _ (dues c) (owed_first m c)) $$ HO
    ihave H0 := (at_elim c _ _) $$ H0
    ihave H1 := (at_elim c _ _) $$ H1
    ihave H2 := (at_elim c _ _) $$ H2
    ihave H3 := (at_elim c _ _) $$ H3
    ihave H4 := (at_elim c _ _) $$ H4
    ihave H5 := (at_elim c _ _) $$ H5
    unfold entry scratch
    icases He with ⟨He, E1, E2, E3, E4, E5, E6, E7, E8, E9, E10, E11⟩
    icases Hs with ⟨Hg, Hs, Hr⟩
    ihave Hg := (vacant_split gM (fun i => by rw [show gM.view.set = Finset.univ from View.set_whole _]; exact Finset.mem_univ i) c) $$ Hg
    ihave Hs := (vacant_split sM (fun i => by rw [show sM.view.set = Finset.univ from View.set_whole _]; exact Finset.mem_univ i) c) $$ Hs
    ihave Hr := (vacant_split rM (fun i => by rw [show rM.view.set = Finset.univ from View.set_whole _]; exact Finset.mem_univ i) c) $$ Hr
    unfold talkPre
    iframe He HO E1 E2 E3 E4 E5 E6 E7 E8 E9 E10 E11 Hg Hs Hr H0 H1 H2 H3 H4
    iexists _
    iexact H5
  · iexact Hp

theorem ob_post (c : Dev nD) : iprop(talkPost (blocks m) c ∗ ∃ r, prngReg c r) ⊢ obPost m c := by
  unfold talkPost obPost counters scratch
  iintro ⟨⟨HO, Hb, C0, C1, C2, C3, Hg, Hs, Hr, H0, H1, H2, H3, H4, H5⟩, Hp⟩
  ihave HO := (owesAt_intro m c t0_0.succ [] (owed_last m c)) $$ HO
  ihave H0 := (at_intro c _ _) $$ H0
  ihave H1 := (at_intro c _ _) $$ H1
  ihave H2 := (at_intro c _ _) $$ H2
  ihave H3 := (at_intro c _ _) $$ H3
  ihave H4 := (at_intro c _ _) $$ H4
  ihave H5 := (at_intro c _ _) $$ H5
  ihave Hg := (vacant_join gM (fun i => by rw [show gM.view.set = Finset.univ from View.set_whole _]; exact Finset.mem_univ i) c) $$ Hg
  ihave Hs := (vacant_join sM (fun i => by rw [show sM.view.set = Finset.univ from View.set_whole _]; exact Finset.mem_univ i) c) $$ Hs
  ihave Hr := (vacant_join rM (fun i => by rw [show rM.view.set = Finset.univ from View.set_whole _]; exact Finset.mem_univ i) c) $$ Hr
  iframe HO Hb C0 C1 C2 C3 Hg Hs Hr H0 H1 H2 H3 H4 H5 Hp

theorem body_obligation (c : Dev nD) : BodyObligation (dat m c) (defs₀ (F := F)) 𝒱₀ () Set.univ := fun t => by
  rw [fin_N0 t]
  rw [bigSep_W0, bigSep_W0]
  simp only [owns_whole_eq]
  show obPre m c ⊢ wp frame (wpE (defs₀ (F := F)) 𝒱₀ (c : Thread nD τ) none) Set.univ
    (cc0__body (Memref.whole cc0_stg0_0) (hstage0_0 0) (Memref.whole cc0_stg1_0) (hstage0_1 0) (Memref.whole cc0_stg2_0) (hstage0_2 0)
      (Memref.whole cc0_stg3_0) (hstage0_3 0) (Memref.whole cc0_stg4_0) (hstage0_4 0) (Memref.whole cc0_stg5_0) (hstage0_5 0)
      (Memref.whole cc0_scratch0) (Memref.isWhole_whole _) (Memref.whole cc0_scratch1) (Memref.isWhole_whole _)
      (Memref.whole cc0_scratch2) (Memref.isWhole_whole _) cc0_scratch3 cc0_scratch4 cc0_scratch5 cc0_scratch6) (fun _ => obPost m c)
  iintro H
  ihave H := (ob_pre m c) $$ H
  icases H with ⟨⟨%κ, H⟩, Hp⟩
  iapply (run_body (blocks m) κ c _ _ _ _ _ _ _ _ _) $$ H
  iintro H
  iapply (ob_post m c)
  iframe H Hp

end Cert.Exchange

end
-- ==== Proof.Segment.lean ====
module

public import proofs.«01_k».proof.Proof.Region
public import proofs.«01_k».proof.Proof.Gen.KernelIdeal.Regions
public import proofs.«01_k».proof.Proof.Gen.KernelIdeal.Points
public import Idealize.ShloMosaic.Lib.Pipeline.RegionTalk
public import Idealize.ShloMosaic.Lib.Rounds.Family
public import Idealize.ShloMosaic.Lib.Ring
public import Idealize.ShloMosaic.Lib.Pipeline.ValueKit

@[expose] public section

set_option maxRecDepth 16384

noncomputable section

/-!
The kernel call as a segment of the program, between the host operations before it and after it.
-/

namespace Cert.Exchange

open Cert.KernelIdeal Cert.KernelIdeal.Gen Cert.Model
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (m : (l : Loc nD τ sig) → Buf (Elt F) l)

/-! ## Into the call and out of it -/

/-- The transfer cells of a device, as the call's own semaphores. -/
def osem (p : Fin 4 × Fin 3) : SemLoc sig := .dma (csem p.1 p.2)

theorem osem_facts : Pipeline.OwnSemFacts cfg0.spec osem := by decide

/-- What a device keeps for the call, the transfer cells not yet opened. -/
def kept0 (κ : GSem nD τ sig → ℕ) (c : Dev nD) : sProp 𝕄 :=
  iprop(records (blocks m) κ ∗ cred (tallyAt (bar c) () 3) ∗ atPos ER (bar c) 0 ∅ 0
    ∗ trio (tokB c) ∗ trio (tokS 0 1 c) ∗ trio (tokS 2 3 c)
    ∗ trio (fun k => cred (tallyAt (cell c 1 k) () N)) ∗ trio (fun k => cred (tallyAt (cell c 3 k) () N))
    ∗ bigSep Finset.univ fun p : Fin 4 × Fin 3 => openTok ER (cell c p.1 p.2))

def before (c : Dev nD) : sProp 𝕄 := iprop(∃ κ, kept0 m κ c)
def entered (c : Dev nD) : sProp 𝕄 := iprop(∃ κ, entry m κ c)
def after (c : Dev nD) : sProp 𝕄 := semVal (bar c) 0

theorem own_counters (c : Dev nD) : (Pipeline.ownSems0 osem c : sProp 𝕄) = bigSep Finset.univ fun p : Fin 4 × Fin 3 => semVal (cell c p.1 p.2) 0 := rfl

theorem own_counters_trio (c : Dev nD) : (Pipeline.ownSems0 osem c : sProp 𝕄) = counters c := by
  rw [own_counters, four_rows]; rfl

/-- Every transfer cell of the device, dormant, from the records and the open tokens. -/
theorem dormant (κ : GSem nD τ sig → ℕ) (c : Dev nD) :
    iprop(records (blocks m) κ ∗ bigSep Finset.univ fun p : Fin 4 × Fin 3 => openTok ER (cell c p.1 p.2))
      ⊢ (bigSep Finset.univ fun p : Fin 4 × Fin 3 => iprop(cellInv ER (plan (blocks m)) (κ (cell c p.1 p.2)) (cell c p.1 p.2) ∗ openTok ER (cell c p.1 p.2)) : sProp 𝕄) :=
  bigSep_with_persistent fun p _ => by
    iintro ⟨H, Ho⟩
    isplitl [H]
    · iapply (inv_at (blocks m) κ (cell_mem c p.1 p.2)) $$ H
    · iexact Ho

theorem opening (c : Dev nD) : iprop(before m c ∗ Pipeline.ownSems0 osem c ∗ levAts L lv) ⊢ (|={Set.univ}=> entered m c : sProp 𝕄) := by
  rw [own_counters]
  unfold before entered kept0
  iintro ⟨⟨%κ, #Hr, Hb, Ha, T1, T2, T3, C1, C2, Ho⟩, Hc, #Hl⟩
  ihave Hd := (dormant m κ c) $$ [Ho]
  · isplitr
    · iexact Hr
    · iexact Ho
  imod (Rounds.cells_open ER (plan (blocks m)) Finset.univ (fun p : Fin 4 × Fin 3 => cell c p.1 p.2) (fun p => κ (cell c p.1 p.2))
    (fun p _ => Set.mem_univ _)) $$ [Hd Hc] with Hop
  · isplitl [Hd]
    · iexact Hd
    · iexact Hc
  ihave Hop := (Entails.of_eq (bigSep_sep' Finset.univ (fun p : Fin 4 × Fin 3 => (atPos ER (cell c p.1 p.2) 0 ∅ 0 : sProp 𝕄))
    (fun p : Fin 4 × Fin 3 => (reached ER (cell c p.1 p.2) 0 : sProp 𝕄)))) $$ Hop
  icases Hop with ⟨Hat, #Hre⟩
  ihave Hat := (Entails.of_eq (four_rows (fun p : Fin 4 × Fin 3 => (atPos ER (cell c p.1 p.2) 0 ∅ 0 : sProp 𝕄)))) $$ Hat
  icases Hat with ⟨A0, A1, A2, A3⟩
  imodintro
  iexists κ
  unfold entry know begun
  isplitr
  · isplitr
    · iexact Hr
    isplitr
    · iexact Hre
    · iexact Hl
  iframe Hb Ha T1 T2 T3 C1 C2 A0 A1 A2 A3

theorem vacant_scratch (c : Dev nD) : (Pipeline.scopedRest (Ix := Unit) (Name := ℕ) (U := UU) (Lvl := ℕ) (Val := Elt F) cfg0.spec c : sProp 𝕄) = scratch c := by
  unfold scratch vacant
  exact scopedRest0_eq c

theorem entering (c : Dev nD) :
    iprop(Pipeline.scopedRest (Pipeline.pin (pcfgs (F := F)) adm 0).spec c ∗ (∃ r, prngReg c r) ∗ StableHlo.held (c.tc : Thread nD τ) ∅ (V1 m c) ∗ entered m c)
      ⊢ (pdats m 0 c).Φ 0 := by
  rw [show (pdats m 0 c).Φ 0 = iprop((∃ κ, entry m κ c) ∗ scratch c ∗ ∃ r, prngReg c r) from rfl,
    show (Pipeline.pin (pcfgs (F := F)) adm 0).spec = cfg0.spec from rfl, vacant_scratch]
  unfold entered
  iintro ⟨Hs, Hp, -, He⟩
  iframe Hs Hp He

theorem leaving (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V2 m (outs m) c) ∗ Pipeline.ownSems0 osem c ∗ after c) := by
  rw [show (pdats m 0 c).Φ (Fin.last _) = iprop(semVal (bar c) 0 ∗ counters c ∗ scratch c ∗ ∃ r, prngReg c r) from rfl,
    show (Pipeline.pin (pcfgs (F := F)) adm 0).spec = cfg0.spec from rfl, vacant_scratch, own_counters_trio,
    show (StableHlo.held (c.tc : Thread nD τ) ∅ (V2 m (outs m) c) : sProp 𝕄) = BI.emp from BI.bigSep_empty]
  unfold after
  iintro ⟨Hb, Hc, Hs, Hp⟩
  iframe Hs Hp Hc Hb
  iempintro

theorem owed_zero (c : Dev nD) : (pdats m 0 c).owed 0 = 0 + owe (dues c) := (owed_first m c).trans (zero_add _).symm
theorem owed_end (c : Dev nD) : (pdats m 0 c).owed (Fin.last _) = 0 := owed_last m c

theorem dues_lv (c : Dev nD) : ∀ p ∈ dues c, p.1.1.2 = .tc ∧ 0 < semLv p.1.2 := by
  unfold dues duesX duesP
  intro p hp
  simp only [List.mem_cons, List.not_mem_nil, _root_.or_false] at hp
  have hb : 0 < semLv (.reg barS) := by decide
  have h1 : ∀ k, 0 < semLv (.dma (csem 1 k)) := by decide
  have h3 : ∀ k, 0 < semLv (.dma (csem 3 k)) := by decide
  rcases hp with rfl | rfl | rfl | rfl | rfl | rfl | rfl | rfl | rfl
  exacts [⟨rfl, hb⟩, ⟨rfl, hb⟩, ⟨rfl, hb⟩, ⟨rfl, h1 0⟩, ⟨rfl, h1 1⟩, ⟨rfl, h1 2⟩, ⟨rfl, h3 0⟩, ⟨rfl, h3 2⟩, ⟨rfl, h3 1⟩]

theorem owed_above (c : Dev nD) (t : Fin (cfg0.N + 1)) (g : GSem nD τ sig) (i : Unit) (h : 0 < (dat m c).owed t g i) :
    i ∈ L g ∧ 0 < lv g i := by
  have e : (dat m c).owed t = if t.val = 0 then owe (dues c) else owe [] := rfl
  rw [e] at h
  split at h
  · obtain ⟨p, hp, rfl⟩ := owe_pos h
    have := dues_lv c p hp
    refine ⟨?_, this.2⟩
    unfold L; rw [if_pos this.1]; exact Finset.mem_singleton_self _
  · exact absurd h (Nat.lt_irrefl 0)

theorem staged_low : ∀ (w : Fin 6) (s : Fin ((cfg0.win w).nbuf)), semLv (.dma ((cfg0.win w).sem s)) = 0 := by decide

theorem cut : Pipeline.LevelCutOwed (pcfgs (F := F)) adm (pdats m) () L lv 0 (fun _ => 0) where
  hι c w s := by unfold L; rw [if_pos rfl]; exact Finset.mem_singleton_self _
  hιb c w s := le_of_eq (staged_low w s)
  hD c t g i h := owed_above m c t g i h

theorem in_0 (c : Dev nD) : V2 m (outs m) c main_v5 = V1 m c main_v5 := V2_of m (outs m) c main_v5 (by decide)
theorem arr_start (c : Dev nD) (w : Fin 6) : (dat m c).arrAt w 0 = V1 m c (Proc.devRef .tc (Pipeline.arrRef cfg0.spec w)) := rfl

theorem arr_end (c : Dev nD) (w : Fin 6) : (dat m c).arrAt w cfg0.N = V2 m (outs m) c (Proc.devRef .tc (Pipeline.arrRef cfg0.spec w)) := by
  have hin (w : Fin 6) (h : (cfg0.win w).isOut = false) (h' : Pipeline.arrRef cfg0.spec w ∉ ([main_v20] : List (Ref sig .tc))) :
      (dat m c).arrAt w cfg0.N = V2 m (outs m) c (Proc.devRef .tc (Pipeline.arrRef cfg0.spec w)) :=
    ((dat m c).arrAt_in w h _).trans (V2_of m (outs m) c _ h').symm
  fin_cases w
  · exact hin 0 rfl (by decide)
  · exact hin 1 rfl (by decide)
  · exact hin 2 rfl (by decide)
  · exact hin 3 rfl (by decide)
  · exact hin 4 rfl (by decide)
  · refine (left_5 m c).trans ?_
    show _ = Function.update (V1 m c) main_v20 (outs m 2 main_v20 c) main_v20
    rw [Function.update_self, outs_v20]

/-- The buffers outside every scope that are no array of the call. -/
def others : Finset (DevRef τ sig) := Pipeline.ucRefs τ sig \ Pipeline.arrRefs (τ := τ) cfg0.spec

theorem others_same (c : Dev nD) : ∀ b ∈ others \ (∅ : Finset (DevRef τ sig)), V2 m (outs m) c b = V1 m c b := fun b hb => by
  have hb := (Finset.mem_sdiff.mp (Finset.mem_sdiff.mp hb).1).2
  refine Function.update_of_ne (fun h => hb ?_) _ _
  rw [h]
  exact (by decide : (Proc.devRef .tc main_v20 : DevRef τ sig) ∈ Pipeline.arrRefs (τ := τ) cfg0.spec)

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ others (Finset.empty_subset _) launch0.toP rfl (fun c => (body_obligation m c).loose)
    (fun _ => 0) (fun c => owe (dues c)) (owed_zero m) (owed_end m) (fun _ => rfl)
    (fun c w => by unfold Dat.share; split <;> rfl)
    (V1 m) (V2 m (outs m)) (others_same m)
    (before m) after (entered m) after (opening m) (entering m) (leaving m)
    (fun c => by iintro H; imodintro; iexact H)
    (fun _ => 0) (cut m) (fun _ => iprop(emp))
    (arr_start m) (arr_end m)

end Cert.Exchange

end
-- ==== Proof.Launch.lean ====
module

public import proofs.«01_k».proof.Proof.Segment
public import Idealize.ShloMosaic.Lib.Quiescent
public import proofs.«01_k».proof.Proof.Gen.KernelIdeal.Regions
public import proofs.«01_k».proof.Proof.Gen.KernelIdeal.Points
public import Idealize.ShloMosaic.Lib.Pipeline.RegionTalk
public import Idealize.ShloMosaic.Lib.Rounds.Family
public import Idealize.ShloMosaic.Lib.Ring
public import Idealize.ShloMosaic.Lib.Pipeline.ValueKit

@[expose] public section

set_option maxRecDepth 16384

noncomputable section

/-!
The whole program: what it starts from, and what every run of it ends in.
-/

namespace Cert.Exchange

open Cert.KernelIdeal Cert.KernelIdeal.Gen Cert.Model
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

/-! ## The tokens of the exchange, by the device that spends them -/

/-- The cell of a token and the device whose cell it is. -/
def tokSem (p : Fin 5 × Fin 3) : SemLoc sig := Fin.cases (.reg barS) (fun a => .dma (csem a p.2)) p.1
def tokDev (p : Fin 5 × Fin 3) : Dev nD ≃ Dev nD := if p.1 = 1 ∨ p.1 = 3 then Equiv.refl _ else turn p.2
def tokDuty (p : Fin 5 × Fin 3) : Fin 3 := if p.1 = 0 then p.2.rev else 0

theorem tok_inj : Function.Injective fun p : Fin 5 × Fin 3 => (tokSem p, tokDuty p) := by decide

def tokEmb : Dev nD × (Fin 5 × Fin 3) ↪ GSem nD τ sig × ℕ × Fin 3 :=
  ⟨fun q => (((tokDev q.2 q.1 : Dev nD), tokSem q.2), 0, tokDuty q.2), fun q q' h => by
    have hp : q.2 = q'.2 := tok_inj (Prod.ext (congrArg (fun t : GSem nD τ sig × ℕ × Fin 3 => t.1.2) h)
      (congrArg (fun t : GSem nD τ sig × ℕ × Fin 3 => t.2.2) h))
    have hd : tokDev q.2 q.1 = tokDev q'.2 q'.1 := congrArg (fun t : GSem nD τ sig × ℕ × Fin 3 => t.1.1.1) h
    rw [hp] at hd
    exact Prod.ext ((tokDev q'.2).injective hd) hp⟩

def toks : Finset (GSem nD τ sig × ℕ × Fin 3) := Finset.univ.map tokEmb

/-- The tokens a device spends. -/
def purse (c : Dev nD) : sProp 𝕄 := iprop(trio (tokB c) ∗ trio (tokS 0 1 c) ∗ trio (tokS 2 3 c))

theorem five_rows (Φ : Fin 5 × Fin 3 → sProp 𝕄) : bigSep Finset.univ Φ
    = iprop(trio (fun k => Φ (0, k)) ∗ trio (fun k => Φ (1, k)) ∗ trio (fun k => Φ (2, k)) ∗ trio (fun k => Φ (3, k)) ∗ trio (fun k => Φ (4, k))) := by
  rw [bigSep_univ_prod, bigSep_univ_eq_bigSepL [(0 : Fin 5), 1, 2, 3, 4] (by decide) (by decide)]
  show iprop(_ ∗ _ ∗ _ ∗ _ ∗ _) = _
  simp only [three_slots]
  rfl

theorem trio_pair (A B : Fin 3 → sProp 𝕄) : iprop(trio A ∗ trio B) ⊢ trio fun k => iprop(A k ∗ B k) := by
  unfold trio
  iintro ⟨⟨A0, A1, A2⟩, ⟨B0, B1, B2⟩⟩
  iframe A0 A1 A2 B0 B1 B2

theorem purse_of (c : Dev nD) :
    (bigSep Finset.univ fun p : Fin 5 × Fin 3 => (dutyTok ER ((tokDev p c : Dev nD), tokSem p) 0 (tokDuty p) : sProp 𝕄)) ⊢ purse c := by
  rw [five_rows]
  unfold purse
  iintro ⟨T0, T1, T2, T3, T4⟩
  isplitl [T0]
  · iexact T0
  isplitl [T1 T2]
  · iapply (trio_pair (F := F) (fun k => dutyTok ER (cell c 0 k) 0 0) (fun k => dutyTok ER (cell (sh k c) 1 k) 0 0))
    isplitl [T1]
    · iexact T1
    · iexact T2
  · iapply (trio_pair (F := F) (fun k => dutyTok ER (cell c 2 k) 0 0) (fun k => dutyTok ER (cell (sh k c) 3 k) 0 0))
    isplitl [T3]
    · iexact T3
    · iexact T4

theorem purses : (bigSep toks fun x => (dutyTok ER x.1 x.2.1 x.2.2 : sProp 𝕄)) ⊢ bigSep Finset.univ fun c : Dev nD => purse c := by
  unfold toks
  rw [bigSep_map, bigSep_univ_prod]
  exact bigSep_mono fun c _ => purse_of c

/-! ## The credit a device starts with -/

theorem bar_bar (c d : Dev nD) : bar c = bar d ↔ c = d := ⟨fun h => congrArg (fun g : GSem nD τ sig => g.1.1) h, fun h => h ▸ rfl⟩
theorem bar_cell (c d : Dev nD) (a : Fin 4) (k : Fin 3) : bar c = cell d a k ↔ False := ⟨fun h => (by cases congrArg Prod.snd h), False.elim⟩
theorem cell_bar (c d : Dev nD) (a : Fin 4) (k : Fin 3) : cell d a k = bar c ↔ False := ⟨fun h => (by cases congrArg Prod.snd h), False.elim⟩
theorem cell_cell (c d : Dev nD) (a b : Fin 4) (k j : Fin 3) : cell c a k = cell d b j ↔ c = d ∧ a = b ∧ k = j := by
  constructor
  · intro h
    have := scEmb.injective (a₁ := (c, (a, k))) (a₂ := (d, (b, j))) h
    simpa only [Prod.mk.injEq] using this
  · rintro ⟨rfl, rfl, rfl⟩; rfl

theorem owe_at (g g' : GSem nD τ sig) (n : ℕ) (l : List (GSem nD τ sig × ℕ)) :
    owe ((g', n) :: l) g () = owe l g () + if g = g' then n else 0 := by
  show (owe l + tallyAt g' () n) g () = _
  rw [Pi.add_apply, Finsupp.add_apply, tallyAt_apply]
  simp only [and_true]

theorem owe_none (g : GSem nD τ sig) : owe [] g () = 0 := rfl

/-- The devices' dues `k + 1` places on come to one device each. -/
theorem sum_turn (k : Fin 3) (c : Dev nD) (n : ℕ) : (∑ d : Dev nD, if c = sh k d then n else 0) = n := by
  show (∑ d : Dev nD, if c = turn k d then n else 0) = n
  rw [(turn k).sum_comp (fun d => if c = d then n else 0), Finset.sum_ite_eq, if_pos (Finset.mem_univ c)]

theorem owed_bar (c : Dev nD) : (∑ d : Dev nD, owe (dues d) (bar c) ()) = 3 := by
  unfold dues duesX duesP
  simp only [owe_at, owe_none, bar_bar, bar_cell, if_false, Nat.zero_add, Nat.add_zero, Finset.sum_add_distrib, sum_turn]

theorem owed_rows (c : Dev nD) (k : Fin 3) : (∑ d : Dev nD, owe (dues d) (cell c 1 k) ()) = N := by
  unfold dues duesX duesP
  simp only [owe_at, owe_none, cell_bar, cell_cell, if_false, Nat.zero_add, Nat.add_zero]
  fin_cases k <;> simp [sum_turn]

theorem owed_part (c : Dev nD) (k : Fin 3) : (∑ d : Dev nD, owe (dues d) (cell c 3 k) ()) = N := by
  unfold dues duesX duesP
  simp only [owe_at, owe_none, cell_bar, cell_cell, if_false, Nat.zero_add, Nat.add_zero]
  fin_cases k <;> simp [sum_turn]

theorem start_credit (g : GSem nD τ sig) (n : ℕ) (h : (∑ d : Dev nD, owe (dues d) g ()) = n) :
    tallyOn g (launchCredit (Pipeline.owing fun d => owe (dues d)) 0 g) = (tallyAt g () n : CellTallies nD τ sig Unit) := by
  unfold tallyAt
  refine congrArg _ (Finsupp.ext fun u => ?_)
  cases u
  rw [Pipeline.launchCredit_owing, Finsupp.single_eq_same, h]

/-- The credit a device starts with: its barrier's, and its arrival cells'. -/
def credits (c : Dev nD) : sProp 𝕄 :=
  iprop(cred (tallyAt (bar c) () 3) ∗ trio (fun k => cred (tallyAt (cell c 1 k) () N)) ∗ trio (fun k => cred (tallyAt (cell c 3 k) () N)))

/-- The semaphores others raise. -/
def arrivals : List (SemLoc sig) := [.reg barS, .dma (csem 1 0), .dma (csem 1 1), .dma (csem 1 2), .dma (csem 3 0), .dma (csem 3 1), .dma (csem 3 2)]

theorem credits_of (c : Dev nD) : (Pipeline.launchCred (fun d => owe (dues d)) c : sProp 𝕄) ⊢ credits c := by
  unfold Pipeline.launchCred
  refine (bigSep_subset (t := arrivals.toFinset) (Finset.subset_univ _)).trans ?_
  rw [bigSep_eq_bigSepL_of_eq arrivals rfl (by decide)]
  let Φ (sm : SemLoc sig) : sProp 𝕄 := cred (tallyOn ((c : Thread nD τ), sm) (launchCredit (Pipeline.owing fun d => owe (dues d)) 0 ((c : Thread nD τ), sm)))
  have hΦ (sm : SemLoc sig) (n : ℕ) (h : (∑ d : Dev nD, owe (dues d) ((c : Thread nD τ), sm) ()) = n) : Φ sm = cred (tallyAt ((c : Thread nD τ), sm) () n) :=
    congrArg cred (start_credit _ n h)
  show iprop(Φ (.reg barS) ∗ Φ (.dma (csem 1 0)) ∗ Φ (.dma (csem 1 1)) ∗ Φ (.dma (csem 1 2)) ∗ Φ (.dma (csem 3 0)) ∗ Φ (.dma (csem 3 1)) ∗ Φ (.dma (csem 3 2))) ⊢ _
  rw [hΦ _ 3 (owed_bar c), hΦ _ N (owed_rows c 0), hΦ _ N (owed_rows c 1), hΦ _ N (owed_rows c 2), hΦ _ N (owed_part c 0),
    hΦ _ N (owed_part c 1), hΦ _ N (owed_part c 2)]
  unfold credits trio
  iintro ⟨H0, H1, H2, H3, H4, H5, H6⟩
  iframe H0 H1 H2 H3 H4 H5 H6

/-! ## The start -/

theorem both_of (A B : Dev nD → sProp 𝕄) : (bigSep Finset.univ fun c => iprop(A c ∗ B c)) ⊢ iprop(bigSep Finset.univ A ∗ bigSep Finset.univ B) :=
  Entails.of_eq (bigSep_sep' _ _ _)
theorem of_both (A B : Dev nD → sProp 𝕄) : iprop(bigSep Finset.univ A ∗ bigSep Finset.univ B) ⊢ bigSep Finset.univ fun c => iprop(A c ∗ B c) :=
  Entails.of_eq (bigSep_sep' _ _ _).symm

theorem bars_apart : Disjoint (barCells : Finset (GSem nD τ sig)) scCells := by
  rw [Finset.disjoint_left]
  rintro g h₁ h₂
  obtain ⟨c, -, rfl⟩ := Finset.mem_map.mp h₁
  obtain ⟨p, -, h⟩ := Finset.mem_map.mp h₂
  cases congrArg Prod.snd h

/-- The ghost state of the start, the exchange's whole on device 0. -/
def u₀ : UU :=
  (initOf (Pipeline.cells (Pipeline.pin (pcfgs (F := F)) adm) cellOf_inj) (Pipeline.launchToks (Pipeline.pin (pcfgs (F := F)) adm) cellOf_inj),
    launchOf barCells scCells toks)

def seed (c : Dev nD) : sProp 𝕄 := if c = 0 then BI.own (ER (launchOf barCells scCells toks)) else iprop(emp)

theorem seed_whole : bigSep Finset.univ (seed (F := F)) = BI.own (ER (launchOf barCells scCells toks)) := by
  rw [bigSep_univ_at _ (0 : Dev nD), bigSep_congr (s := Finset.univ.erase (0 : Dev nD)) (Ψ := fun _ => (BI.emp : sProp 𝕄))
      fun c hc => by unfold seed; rw [if_neg (Finset.ne_of_mem_erase hc)]; rfl, BI.bigSep_emp_const]
  unfold seed
  rw [if_pos rfl]
  exact BI.equiv_iff.mp sep_emp

theorem free_sems (c : Dev nD) : (unscopedSems0 c : sProp 𝕄) = semVal (bar c) 0 := by
  unfold unscopedSems0
  rw [show (Finset.univ.filter fun sm : SemLoc sig => ¬ sm.isScoped .tc) = {SemLoc.reg barS} from by decide, BI.bigSep_singleton]

variable (m : (l : Loc nD τ sig) → Buf (Elt F) l) (ρ : Dev nD → PrngReg)

/-- What rides beside the buffers before the call, and after it. -/
def beside : Fin 2 → Dev nD → sProp 𝕄
  | 0, c => iprop(before m c ∗ debt c (dues c) ∗ ∃ r, prngReg c r)
  | 1, c => iprop(after c ∗ debt c [])

/-- What a device has at the start of its own. -/
def mine (c : Dev nD) : sProp 𝕄 :=
  iprop(StableHlo.held (c : Thread nD τ) (Pipeline.ucRefs τ sig) (V0 m c) ∗ credits c ∗ debt c (dues c) ∗ ∃ r, prngReg c r)

/-- What a device gets of the exchange's ghost state. -/
def dealt (c : Dev nD) : sProp 𝕄 :=
  iprop(atPos ER (bar c) 0 ∅ 0 ∗ (bigSep Finset.univ fun p : Fin 4 × Fin 3 => openTok ER (cell c p.1 p.2)) ∗ purse c)

theorem ready (κ : GSem nD τ sig → ℕ) (c : Dev nD) : iprop(records (blocks m) κ ∗ (dealt c ∗ mine m c))
    ⊢ iprop(StableHlo.held (c : Thread nD τ) (Pipeline.ucRefs τ sig) (V0 m c) ∗ beside m 0 c) := by
  unfold dealt mine beside before kept0 purse credits
  iintro ⟨#HR, ⟨Ha, Ho, T1, T2, T3⟩, Hh, ⟨C0, C1, C2⟩, HO, Hp⟩
  iframe Hh HO Hp
  iexists κ
  isplitr
  · iexact HR
  iframe C0 Ha T1 T2 T3 C1 C2 Ho

theorem start :
    iprop((bigSep Finset.univ fun c : Dev nD => iprop(unscopedBufs c (fun b => m ((c : Thread nD τ).loc b)) ∗ unscopedSems0 c
          ∗ owes (c : Thread nD τ) (owe (dues c)) ∅ ∗ Pipeline.launchCred (fun d => owe (dues d)) c ∗ prngReg c (ρ c) ∗ seed c)) ∗ levAts L lv)
      ⊢ (|={Set.univ}=> bigSep Finset.univ fun c : Dev nD =>
          iprop(StableHlo.held (c : Thread nD τ) (Pipeline.ucRefs τ sig) (V0 m c) ∗ beside m 0 c) : sProp 𝕄) := by
  have hcore (c : Dev nD) : iprop(unscopedBufs c (fun b => m ((c : Thread nD τ).loc b)) ∗ unscopedSems0 c
        ∗ owes (c : Thread nD τ) (owe (dues c)) ∅ ∗ Pipeline.launchCred (fun d => owe (dues d)) c ∗ prngReg c (ρ c) ∗ seed c)
      ⊢ (iprop(mine m c ∗ (semVal (bar c) 0 ∗ seed c)) : sProp 𝕄) := by
    rw [show unscopedBufs c (fun b => m ((c : Thread nD τ).loc b)) = StableHlo.held (c : Thread nD τ) (Pipeline.ucRefs τ sig) (V0 m c)
      from Pipeline.unscopedBufs_held c (V0 m c), free_sems]
    unfold mine debt
    iintro ⟨Hh, Hs, HO, Hc, Hp, HG⟩
    ihave Hc := (credits_of (F := F) c) $$ Hc
    iframe Hh Hc Hs HG
    isplitl [HO]
    · iexists ∅
      iexact HO
    · iexists (ρ c)
      iexact Hp
  have hv : bigSep Finset.univ (fun c : Dev nD => (semVal (bar c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (bar c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => bigSep Finset.univ fun p : Fin 4 × Fin 3 => (openTok ER (cell c p.1 p.2) : sProp 𝕄)) :=
    Entails.of_eq (by rw [bigSep_map, bigSep_univ_prod]; rfl)
  iintro ⟨H, -⟩
  ihave H := (show _ ⊢ (bigSep Finset.univ fun c : Dev nD => iprop(mine m c ∗ (semVal (bar c) 0 ∗ seed c)) : sProp 𝕄) from bigSep_mono fun c _ => hcore c) $$ H
  ihave H := (both_of _ _) $$ H
  icases H with ⟨HM, H⟩
  ihave H := (both_of _ _) $$ H
  icases H with ⟨Hv, HG⟩
  ihave Hu := (Entails.of_eq (seed_whole (F := F))) $$ HG
  imod (Rounds.fund_launch ER (plan (blocks m)) bars_apart (fun g _ h => h) toks) $$ [Hv Hu] with ⟨%κ, -, #Hinv, #Hr, Hat, Hopen, Htok⟩
  · isplitl [Hv]
    · iapply hv $$ Hv
    · iexact Hu
  imodintro
  iapply (bigSep_with_persistent (R := records (blocks m) κ) (Φ := fun c => iprop(dealt c ∗ mine m c)) fun c _ => ready m κ c)
  isplitr
  · unfold records
    isplitr
    · iexact Hinv
    · iexact Hr
  iapply (of_both _ _)
  isplitr [HM]
  · unfold dealt
    iapply (of_both _ _)
    isplitl [Hat]
    · iapply hat $$ Hat
    iapply (of_both _ _)
    isplitl [Hopen]
    · iapply hopen $$ Hopen
    · iapply (purses (F := F)) $$ Htok
  · iexact HM

/-! ## The run -/

theorem to_call (c : Dev nD) : iprop(StableHlo.held (c : Thread nD τ) (Pipeline.ucRefs τ sig) (V1 m c) ∗ beside m 0 c) ⊢ (reg0 m).pre c := by
  show _ ⊢ iprop(StableHlo.held (c.tc : Thread nD τ) (Pipeline.arrRefs (τ := τ) (pcfgs (F := F) 0).spec) (V1 m c) ∗ (∃ r, prngReg c r)
    ∗ (StableHlo.held (c.tc : Thread nD τ) others (V1 m c) ∗ emp) ∗ before m c ∗ ∃ Wd, owes (c : Thread nD τ) (0 + owe (dues c)) Wd)
  rw [StableHlo.held_sub_split (c.tc : Thread nD τ) (show Pipeline.arrRefs (τ := τ) cfg0.spec ⊆ Pipeline.ucRefs τ sig from by decide) (V1 m c), zero_add]
  unfold beside debt others
  iintro ⟨⟨Ha, Hr⟩, Hb, HO, Hp⟩
  iframe Ha Hp Hr Hb HO

theorem from_call (c : Dev nD) : (reg0 m).post c ⊢ iprop(StableHlo.held (c : Thread nD τ) (Pipeline.ucRefs τ sig) (V2 m (outs m) c) ∗ beside m 1 c) := by
  show iprop(StableHlo.held (c.tc : Thread nD τ) (Pipeline.arrRefs (τ := τ) (pcfgs (F := F) 0).spec) (V2 m (outs m) c) ∗ (∃ r, prngReg c r)
    ∗ (StableHlo.held (c.tc : Thread nD τ) others (V2 m (outs m) c) ∗ emp) ∗ after c ∗ ∃ Wd, owes (c : Thread nD τ) 0 Wd) ⊢ _
  rw [StableHlo.held_sub_split (c.tc : Thread nD τ) (show Pipeline.arrRefs (τ := τ) cfg0.spec ⊆ Pipeline.ucRefs τ sig from by decide) (V2 m (outs m) c)]
  unfold beside debt others
  iintro ⟨Ha, -, ⟨Hr, -⟩, Hb, HO⟩
  iframe Ha Hr Hb
  iexact HO

set_option backward.isDefEq.respectTransparency.types false in
/-- Every run of the program ends, with every buffer outside the scopes as the last host operation leaves it and no
    counter raised. -/
theorem run_main : θ_run (Cert.KernelIdeal.defs (F := F)) (onTc (τ := τ) (Cert.KernelIdeal.main (F := F))) ⟨m, fun _ => 0, ρ⟩
    (fun r => (∀ c : Dev nD, ∀ b ∈ Pipeline.ucRefs τ sig, r.2.mem ((c : Thread nD τ).1, b) = V3 m (outs m) c b) ∧ r.2.sem = fun _ => 0) :=
  Pipeline.θ_run_regions_kit_dev_sems (pcfgs (F := F)) adm (pdats m) () cellOf_inj EP defs₀ 𝒱₀ L lv m ρ Cert.KernelIdeal.main
    (segs m (outs m) 𝒱₀ L lv (beside m) () (pdats m) (reg0 m))
    (fun c Q => by
      rewrite [main_chain c, Pipeline.Seg.run_eq_chain,
        show (segs m (outs m) 𝒱₀ L lv (beside m) () (pdats m) (reg0 m) c).map Pipeline.Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Pipeline.Seg.pipes_host, Pipeline.Seg.pipes_region, Pipeline.Seg.pipes_nil]; decide)
    (fun d => owe (dues d)) L_of_ne seed u₀
    (by
      unfold u₀
      iintro Hu
      ihave H := (ownU_pair _ _) $$ Hu
      icases H with ⟨HP, HX⟩
      imodintro
      isplitl [HP]
      · iexact HP
      rw [seed_whole]
      iexact HX)
    (fun c => iprop(StableHlo.held (c : Thread nD τ) (Pipeline.ucRefs τ sig) (V0 m c) ∗ beside m 0 c))
    (fun c => iprop(StableHlo.held (c : Thread nD τ) (Pipeline.ucRefs τ sig) (V3 m (outs m) c) ∗ semVal (bar c) 0))
    (fun c => ⟨.rfl, to_call m c, from_call m c, by
      show iprop(StableHlo.held (c : Thread nD τ) (Pipeline.ucRefs τ sig) (V3 m (outs m) c) ∗ (semVal (bar c) 0 ∗ ∃ W, owes (c : Thread nD τ) (0 : CellTallies nD τ sig Unit) W)) ⊢ _
      iintro ⟨Hh, Hb, HO⟩
      iframe Hh Hb HO⟩)
    (start m ρ)
    (fun c s => (∀ b ∈ Pipeline.ucRefs τ sig, s.mem ((c : Thread nD τ).1, b) = V3 m (outs m) c b) ∧ s.sem (bar c) = 0)
    (fun c s' => by
      unfold StableHlo.held
      iintro ⟨⟨Hh, Hb⟩, HSI⟩
      icombine HSI Hb gives %hb
      ihave Hr := (pointsTo_read_all (Pipeline.ucRefs τ sig) (fun b => ((c : Thread nD τ).1, b)) (V3 m (outs m) c) s') $$ [Hh HSI]
      · isplitl [Hh]
        · iexact Hh
        · iexact HSI
      icases Hr with ⟨%h, HSI⟩
      imodintro
      isplitr
      · ipureintro
        exact ⟨h, by simpa using hb⟩
      iexact HSI)
    (fun s h hs => ⟨fun c => (h c).1, sem_eq_zero hs fun c sm hsm => by
      rw [(by decide : ∀ sm : SemLoc sig, sm.isScoped .tc = false → sm = .reg barS) sm hsm]
      exact (h c).2⟩)

end Cert.Exchange

end
-- ==== Proof.Frames.lean ====
/-
  The frames: each program terminates, leaves its arguments as they were and every counter at zero. The kernel's is its run
  (Launch.lean) read at the arguments; the run is proved for any float values and any reading of the named constant, so it
  holds of the program with the constant as written (Same.lean) as of the one with its name.
-/
module

public import proofs.«01_k».proof.Defs
public import proofs.«01_k».proof.Proof.Same
public import proofs.«01_k».proof.Proof.Launch
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent

@[expose] public section

set_option maxRecDepth 16384

noncomputable section

namespace Cert.Frames

open Cert.KernelIdeal Cert.KernelIdeal.Gen Cert.Exchange
open Idealize.ShloMosaic Idealize.ShloMosaic.TcCoe Idealize.SL.Sem

section
variable {F : FTy → Type} [FloatOps F] [Named F]
variable (m : (ℓ : Loc nD τ sig) → Buf (Elt F) ℓ) (ρ : Dev nD → PrngReg)

/-- The kernel's run read at its result and its arguments. -/
theorem run_kernel : θ_run (Cert.KernelIdeal.defs (F := F)) (onTc (τ := τ) (Cert.KernelIdeal.main (F := F))) ⟨m, fun _ => 0, ρ⟩
    (fun r => (∀ c : Dev nD,
      r.2.mem ((c.tc : Thread nD τ).loc main_v21) = V3 m (outs m) c main_v21
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run Cert.KernelIdeal.defs _ _).mono (fun r h => ⟨fun c => ?_, h.2⟩) (run_main m ρ)
  have at_ (b : Ref sig .tc) (hb : (Proc.devRef (τ := τ) (sig := sig) .tc b) ∈ Pipeline.ucRefs τ sig) := h.1 c _ hb
  refine ⟨at_ main_v21 ?_, (at_ main_arg0 ?_).trans (V3_main_arg0 m (outs m) c), (at_ main_arg1 ?_).trans (V3_main_arg1 m (outs m) c),
    (at_ main_arg2 ?_).trans (V3_main_arg2 m (outs m) c), (at_ main_arg3 ?_).trans (V3_main_arg3 m (outs m) c),
    (at_ main_arg4 ?_).trans (V3_main_arg4 m (outs m) c)⟩
  all_goals exact Finset.mem_filter.mpr ⟨StableHlo.devRef_mem_tcRefs _, by decide⟩

end

theorem frame_pi : Cert.quiescent_KernelIdeal := fun m g _ =>
  (θ_run Cert.KernelIdeal.defs _ _).mono (fun _ h => ⟨fun c => (h.1 c).2, h.2⟩) (run_kernel (F := Ideal) m g)

theorem frame_p : Cert.quiescent_Kernel := by
  intro m g _
  rw [Cert.Same.defs_eq, Cert.Same.main_eq]
  letI : Named Bits := Cert.Same.asWritten
  exact (θ_run Cert.KernelIdeal.defs _ _).mono (fun _ h => ⟨fun c => (h.1 c).2, h.2⟩) (run_kernel (F := Bits) m g)

theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The one named constant: the table gives the name the real whose single-precision spelling the kernel's literal is. -/
theorem preserves : Cert.preserves_Kernel_KernelIdeal :=
  IdealRules.named_const.statement Cert.KernelIdeal.κ "scale_log2e" .f32 0x3E0293EE#32
    ((((Real.sqrt 128) * (Real.log 2))⁻¹ : ℝ) : EReal) rfl

end Cert.Frames

end
-- ==== Proof.Finite.lean ====
/- What the precondition says: the rows, the query weights and the keys hold real numbers. -/
module

public import proofs.«01_k».proof.Defs
public import Idealize.ShloMosaic.Lib.Pointwise
public import Idealize.ShloMosaic.Lib.IdealHost

@[expose] public section

set_option maxRecDepth 16384

noncomputable section

namespace Cert.Finite

open Idealize.ShloMosaic Idealize.ShloMosaic.TcCoe
open Cert.Pre_scores_finite_KernelIdeal

instance facts : Cert.Pre_scores_finite_KernelIdeal.Facts where
  bitsLt_bf16_f32 := by decide
  bcast_S_S1x512x1024 := by decide
  bcast_S_S1024x1024 := by decide
  bcast_S_S1x2048x32x128 := by decide

instance reference_facts : Cert.Pre_scores_finite_ReferenceIdeal.Facts where
  bitsLt_bf16_f32 := by decide
  bcast_S_S1x2048x1024 := by decide
  bcast_S_S1024x4096 := by decide
  bcast_S_S1x2048x32x128 := by decide

variable (a0 : FVec Ideal S1x512x1024 .bf16) (a1 a2 : FVec Ideal S1024x1024 .bf16) (a3 a4 : FVec Ideal S1x2048x32x128 .bf16)

theorem infinity : Ideal.ofBits .f32 0x7F800000#32 = ⊤ := by
  simp [Ideal.ofBits, Ideal.ieee]

/-- A value whose absolute value compares below infinity is real. -/
theorem real_of_bit (x : Ideal .f32) (h : BitVec.ofBool (decide (FloatOps.absf x < Ideal.ofBits .f32 0x7F800000#32)) = 1#1) :
    ∃ r : ℝ, x = (r : EReal) := by
  rw [infinity] at h
  have h' : FloatOps.absf x < (⊤ : EReal) := by
    by_contra hn
    rw [decide_eq_false hn] at h
    exact absurd h (by decide)
  rw [Ideal.absf_def] at h'
  induction x using EReal.rec with
  | bot => simp at h'
  | top => simp at h'
  | coe r => exact ⟨r, rfl⟩

theorem rows_real (h : (fn (F := Ideal) a0 a1 a2 a3 a4).1 = fun _ => 1#1) (r : Fin 512) (e : Fin 1024) :
    ∃ x : ℝ, a0 (ix3 0 r e) = (x : EReal) := by
  have h' := congrFun h (ix3 0 r e)
  revert h'
  pointwise [fn]
  exact real_of_bit _

theorem weights_real (h : (fn (F := Ideal) a0 a1 a2 a3 a4).2.1 = fun _ => 1#1) (e f : Fin 1024) : ∃ x : ℝ, a1 (ix2 e f) = (x : EReal) := by
  have h' := congrFun h (ix2 e f)
  revert h'
  pointwise [fn]
  exact real_of_bit _

theorem keys_real (h : (fn (F := Ideal) a0 a1 a2 a3 a4).2.2 = fun _ => 1#1) (j : Fin 2048) (g : Fin 32) (t : Fin 128) :
    ∃ x : ℝ, a3 (ix4 0 j g t) = (x : EReal) := by
  have h' := congrFun h (ix4 0 j g t)
  revert h'
  pointwise [fn]
  exact real_of_bit _

end Cert.Finite
end
-- ==== Proof.HostValue.lean ====
/-
  What the operations before the call hand the kernel: the device's rows and weights as they are, and its eight heads of the
  keys and values, the heads in front.
-/
module

public import proofs.«01_k».proof.Proof.Region
public import Idealize.ShloMosaic.Lib.Pointwise
public import Idealize.ShloMosaic.Lib.IdealHost
public import Idealize.ShloMosaic.Lib.StableHlo.RunClose

@[expose] public section

set_option maxRecDepth 16384

noncomputable section

namespace Cert.Exchange

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The first of a device's heads, as the program computes it from the device's number. -/
def firstHead (c : Dev nD) : IVec S_ 32 :=
  let w := muli (Host.remui (Host.divui (constantI S_ 32 (Dev.word c)) (constantI S_ 32 1#32)) (constantI S_ 32 4#32)) (constantI S_ 32 8#32)
  select (cmpi .slt w (constantI S_ 32 0#32)) (addi w (constantI S_ 32 32#32)) w

theorem firstHead_toInt (c : Dev nD) (i : S_.Idx) : (firstHead c i).toInt = 8 * c.val := by
  have h : ∀ c : Dev nD, (firstHead c (Shape.Idx.first h_S_)).toInt = 8 * c.val := by decide
  have hi : i = Shape.Idx.first h_S_ := Subsingleton.elim _ _
  rw [hi]; exact h c

/-- A device's heads of an array of keys or values. -/
def heads (a : Vec Ideal S1x2048x32x128 .bf16) (c : Dev nD) : Vec Ideal S8x2048x128 .bf16 :=
  transpose S8x2048x128 [1, 0, 2]
    (Host.dynamicSlice S2048x8x128 (shapeCast S2048x32x128 a shapeCasts_S1x2048x32x128_S2048x32x128)
      (fun k => ((![constantI S_ 32 0#32, firstHead c, constantI S_ 32 0#32] : Fin 3 → IVec S_ 32) k (Shape.Idx.first h_S_)).toInt)
      sliceFits_S2048x32x128_S2048x8x128)
    transposes_S2048x8x128_S8x2048x128_1_0_2

theorem heads_apply (a : Vec Ideal S1x2048x32x128 .bf16) (c : Dev nD) (h : Fin 8) (j : Fin 2048) (d : Fin 128) :
    heads a c (ix3 h j d) = a (ix4 0 j ⟨8 * c.val + h.val, by have := c.isLt; have : c.val < 4 := this; omega⟩ d) := by
  have hc : c.val < 4 := c.isLt
  pointwise [heads]
  congr 2 <;> apply Fin.ext
  · show _ + j.val = j.val
    rw [Host.clampedStart_of_le (k := 0) _ _ _ (by simp [constantI]) (by decide)]
    omega
  · show _ + h.val = _
    rw [Host.clampedStart_of_le (k := 8 * c.val) _ _ _ (by simpa using firstHead_toInt c _) (by show 8 * c.val + 8 ≤ 32; omega)]
  · show _ + d.val = d.val
    rw [Host.clampedStart_of_le (k := 0) _ _ _ (by simp [constantI]) (by decide)]
    omega

theorem rows_value (c : Dev nD) : V1 m c main_v5 = shapeCast S512x1024 (m ((c.tc : Thread nD τ).loc main_arg0)) shapeCasts_S1x512x1024_S512x1024 := by
  show StableHlo.after (hostOps0 c) (V0 m c) main_v5 = _
  after_results
  rfl

theorem keys_value (c : Dev nD) : V1 m c main_v18 = heads (m ((c.tc : Thread nD τ).loc main_arg3)) c := by
  show StableHlo.after (hostOps0 c) (V0 m c) main_v18 = _
  after_results_simp_entrywise
  rfl

theorem values_value (c : Dev nD) : V1 m c main_v19 = heads (m ((c.tc : Thread nD τ).loc main_arg4)) c := by
  show StableHlo.after (hostOps0 c) (V0 m c) main_v19 = _
  after_results_simp_entrywise
  rfl

end Cert.Exchange
end
-- ==== Proof.KernelValue.lean ====
/-
  What one device computes of a block of rows, index by index, at ideal values.
-/
module

public import proofs.«01_k».proof.Proof.Model
public import Idealize.ShloMosaic.Lib.Pointwise
public import Idealize.ShloMosaic.Lib.IdealHost
public import Idealize.ShloMosaic.Lib.Pipeline.Value

@[expose] public section

set_option maxRecDepth 16384

noncomputable section

namespace Cert.Model

open Idealize.ShloMosaic Idealize.ShloMosaic.TcCoe
open Cert.KernelIdeal Cert.KernelIdeal.Gen

/-- The scale the queries carry: what turns a base-two exponential of the products into the softmax's. -/
def scale : EReal := ((((Real.sqrt 128) * (Real.log 2))⁻¹ : ℝ) : EReal)

theorem named_scale : (Named.named κ "scale_log2e" (0x3E0293EE#32 : BitVec FTy.f32.bits) : Ideal .f32) = scale :=
  IdealRules.named_const.ideal_named_scalar _ _ _ _ rfl

theorem query_apply (x : Vec Ideal S512x1024 .bf16) (wq : Vec Ideal S1024x1024 .bf16) (r : Fin 512) (f : Fin 1024) :
    query x wq (ix2 r f) = (∑ i : Fin 1024, x (ix2 r i) * wq (ix2 i f)) * scale := by
  unfold query
  rw [named_scale]
  pointwise []

/-- The product of a row's query with a key of head `h`. -/
def score (q : FVec Ideal S512x1024 .bf16) (k : Vec Ideal S8x2048x128 .bf16) (h : Fin 8) (r : Fin 512) (j : Fin 2048) : EReal :=
  ∑ d : Fin 128, q (ix2 r ⟨128 * h.val + d.val, by omega⟩) * k (ix3 h j d)

theorem row_apply (k : Vec Ideal S8x2048x128 .bf16) (h : Fin 8) (j : Fin 2048) (d : Fin 128) :
    row k h (ix3 0 j d) = k (ix3 h j d) := by
  unfold row
  pointwise []

theorem head_apply (q : FVec Ideal S512x1024 .bf16) (k v : Vec Ideal S8x2048x128 .bf16) (h : Fin 8) (r : Fin 512) (t : Fin 128) :
    head q k v h (ix2 r t)
      = Ideal.div (∑ j : Fin 2048, Ideal.exp2 (score q k h r j) * v (ix3 h j t)) (∑ j : Fin 2048, Ideal.exp2 (score q k h r j)) := by
  pointwise [head, k0_pay18]
  simp only [row_apply]
  rfl

/-- The heads side by side, read at lane `t` of head `h`. -/
theorem beside_apply (f : Fin 8 → FVec Ideal S512x128 .bf16) (r : Fin 512) (h : Fin 8) (t : Fin 128) :
    concatenate S512x1024 1
      [⟨S512x128, f 0⟩, ⟨S512x128, f 1⟩, ⟨S512x128, f 2⟩, ⟨S512x128, f 3⟩, ⟨S512x128, f 4⟩, ⟨S512x128, f 5⟩, ⟨S512x128, f 6⟩,
        ⟨S512x128, f 7⟩]
      concatenates_S512x128_S512x128_S512x128_S512x128_S512x128_S512x128_S512x128_S512x128_S512x1024_d1
      (ix2 r ⟨128 * h.val + t.val, by omega⟩) = f h (ix2 r t) :=
  concatenate_ofFn_apply (s₁ := S512x128) (t := S512x1024) 1 f
    concatenates_S512x128_S512x128_S512x128_S512x128_S512x128_S512x128_S512x128_S512x128_S512x1024_d1 rfl 128 rfl
    (ix2 r ⟨128 * h.val + t.val, by omega⟩) h (by show (128 * h.val + t.val) / 128 = h.val; omega) (ix2 r t)
    (by show t.val = (128 * h.val + t.val) % 128; omega)
    (fun b hb => by
      match b, hb with
      | ⟨0, _⟩, _ => rfl
      | ⟨1, _⟩, hb => exact absurd rfl hb)

/-- A sum over the 1024 lanes of a device, head by head. -/
theorem sum_lanes {M : Type} [AddCommMonoid M] (f : Fin 1024 → M) :
    ∑ i : Fin 1024, f i = ∑ h : Fin 8, ∑ t : Fin 128, f ⟨128 * h.val + t.val, by omega⟩ := by
  rw [← Fintype.sum_prod_type' (f := fun (h : Fin 8) (t : Fin 128) => f ⟨128 * h.val + t.val, by omega⟩)]
  refine (Fintype.sum_equiv (finProdFinEquiv (m := 8) (n := 128)) _ _ fun p => congrArg f (Fin.ext ?_)).symm
  show 128 * p.1.val + p.2.val = p.2.val + 128 * p.1.val
  omega

theorem partialOut_apply (x : Vec Ideal S512x1024 .bf16) (wq : Vec Ideal S1024x1024 .bf16) (k v : Vec Ideal S8x2048x128 .bf16)
    (wo : Vec Ideal S1024x1024 .bf16) (r : Fin 512) (n : Fin 1024) :
    partialOut x wq k v wo (ix2 r n)
      = ∑ h : Fin 8, ∑ t : Fin 128, head (query x wq) k v h (ix2 r t) * wo (ix2 ⟨128 * h.val + t.val, by omega⟩ n) := by
  have hc := beside_apply (head (query x wq) k v) r
  unfold partialOut
  generalize concatenate (α := Ideal .bf16) S512x1024 1 _ _ = C at hc ⊢
  pointwise []
  rw [sum_lanes]
  simp only [hc]

end Cert.Model
end
-- ==== Proof.RowMax.lean ====
/-
  The reduction of an array along its last axis, read at an index as a fold over that axis, at any extents.
-/
module

public import Idealize.ShloMosaic.Lib.Pointwise
public import Idealize.ShloMosaic.Lib.IdealHost

@[expose] public section

namespace Cert.RefModel

open Idealize.ShloMosaic

/-- The reduction along the last of four axes folds over that axis. -/
theorem reduce_last {a b c n : Nat} {u : Shape} {α : Type} (f : α → α → α) [Std.Commutative f] [Std.Associative f]
    (x : (⟨4, ![a, b, c, n]⟩ : Shape).Idx → α) (init : u.Idx → α)
    (h : (⟨4, ![a, b, c, n]⟩ : Shape).ReducesTo [3] ⟨3, ![a, b, c]⟩) (hu : 0 < u.numel) (i : Fin a) (j : Fin b) (k : Fin c) :
    Host.reduce f x init h hu (ix3 i j k) =
      (Finset.univ : Finset (Fin n)).fold f (init (Shape.Idx.first hu)) fun l => x (ix4 i j k l) := by
  rw [Host.reduce_eq_fold, Shape.ReducesTo.fold_fiber_r4_a3]
  rfl

end Cert.RefModel
-- ==== Proof.RefValue.lean ====
/-
  What the reference computes, index by index, at ideal values. The keys and values come in two halves; each half updates a
  running maximum, a running sum of weights and a running weighted sum, and the last is divided by the sum at the end.
-/
module

public import proofs.«01_k».proof.Proof.Gen.ReferenceIdeal
public import proofs.«01_k».proof.Proof.Gen.ReferenceIdeal.Run
public import proofs.«01_k».proof.Proof.RowMax
public import Idealize.ShloMosaic.Lib.Pointwise
public import Idealize.ShloMosaic.Lib.IdealHost

@[expose] public section

set_option maxRecDepth 16384

noncomputable section

namespace Cert.RefModel

open Cert.ReferenceIdeal Cert.ReferenceIdeal.Gen
open Idealize.ShloMosaic Idealize.ShloMosaic.TcCoe

abbrev Rows := FVec Ideal S1x32x2048x1 .f32
abbrev Scores := FVec Ideal S1x32x2048x1024 .f32
abbrev Heads := FVec Ideal S1x2048x32x128 .f32
abbrev Half := FVec Ideal S1x1024x32x128 .bf16

def queries (x : FVec Ideal S1x2048x1024 .bf16) (wq : FVec Ideal S1024x4096 .bf16) : FVec Ideal S1x2048x32x128 .bf16 :=
  shapeCast S1x2048x32x128
    (truncf .bf16 (Host.dotGeneral dot_S1x2048x1024_S1024x4096_S1x2048x4096_2_0_01_1_n_n none x wq : FVec Ideal S1x2048x4096 .f32) bitsLt_bf16_f32)
    shapeCasts_S1x2048x4096_S1x2048x32x128

def lower (a : Vec Ideal S1x2048x32x128 .bf16) : Half :=
  extractStridedSlice S1x1024x32x128 ![0, 0, 0, 0] a slices_S1x2048x32x128_S1x1024x32x128_0_0_0_0

def upper (a : Vec Ideal S1x2048x32x128 .bf16) : Half :=
  extractStridedSlice S1x1024x32x128 ![0, 1024, 0, 0] a slices_S1x2048x32x128_S1x1024x32x128_0_1024_0_0

def scores (q : FVec Ideal S1x2048x32x128 .bf16) (k : Half) : Scores :=
  Host.divf
    (extf .f32 (truncf .bf16 (Host.dotGeneral dot_S1x2048x32x128_S1x1024x32x128_S1x32x2048x1024_3_3_1_1_02_02 none q k : Scores) bitsLt_bf16_f32) bitsLt_bf16_f32)
    (broadcastInDim S1x32x2048x1024 ![] bcast_S_S1x32x2048x1024 (Host.sqrt (constant S_ .f32 0x43000000#32)))

/-- The largest score of every row. -/
def rowMax (s : Scores) : FVec Ideal S1x32x2048 .f32 :=
  Host.reduce FloatOps.maximumf s (constant S_ .f32 0xFF800000#32) reducesTo_S1x32x2048x1024_S1x32x2048_d3 h_S_

def newMax (mx : Rows) (s : Scores) : Rows :=
  maximumf mx (broadcastInDim S1x32x2048x1 ![0, 1, 2] bcast_S1x32x2048_S1x32x2048x1_0_1_2 (rowMax s))

def shrink (mx : Rows) (s : Scores) : Rows := Host.exp (subf mx (newMax mx s))

def weights (mx : Rows) (s : Scores) : Scores :=
  Host.exp (subf s (broadcastInDim S1x32x2048x1024 ![0, 1, 2, 3] bcast_S1x32x2048x1_S1x32x2048x1024_0_1_2_3 (newMax mx s)))

def newSum (mx l : Rows) (s : Scores) : Rows :=
  addf (mulf l (shrink mx s)) (broadcastInDim S1x32x2048x1 ![0, 1, 2] bcast_S1x32x2048_S1x32x2048x1_0_1_2
    (Host.reduceAdd (weights mx s) (constant S_ .f32 0x00000000#32) reducesTo_S1x32x2048x1024_S1x32x2048_d3 h_S_))

def lanes (a : Rows) : Heads :=
  broadcastInDim S1x2048x32x128 ![0, 1, 2, 3] bcast_S1x2048x32x1_S1x2048x32x128_0_1_2_3
    (transpose S1x2048x32x1 [0, 2, 1, 3] a transposes_S1x32x2048x1_S1x2048x32x1_0_2_1_3)

def newOut (mx : Rows) (o : Heads) (s : Scores) (v : Half) : Heads :=
  addf (mulf o (lanes (shrink mx s)))
    (transpose S1x2048x32x128 [0, 3, 1, 2]
      (Host.dotGeneral dot_S1x1024x32x128_S1x32x2048x1024_S1x32x128x2048_1_3_3_2_02_01 none (extf .f32 v bitsLt_bf16_f32 : FVec Ideal S1x1024x32x128 .f32) (weights mx s) : FVec Ideal S1x32x128x2048 .f32)
      transposes_S1x32x128x2048_S1x2048x32x128_0_3_1_2)

def startMax : Rows := broadcastInDim S1x32x2048x1 ![] bcast_S_S1x32x2048x1 (constant S_ .f32 0xFF800000#32)
def startSum : Rows := broadcastInDim S1x32x2048x1 ![] bcast_S_S1x32x2048x1 (constant S_ .f32 0x00000000#32)
def startOut : Heads := broadcastInDim S1x2048x32x128 ![] bcast_S_S1x2048x32x128 (constant S_ .f32 0x00000000#32)

/-- The attention of every row and head. -/
def attended (q : FVec Ideal S1x2048x32x128 .bf16) (k v : Vec Ideal S1x2048x32x128 .bf16) : Heads :=
  let s := scores q (lower k)
  let s' := scores q (upper k)
  let m := newMax startMax s
  Host.divf (newOut m (newOut startMax startOut s (lower v)) s' (upper v)) (lanes (newSum m (newSum startMax startSum s) s'))

def result (x : Vec Ideal S1x2048x1024 .bf16) (wq : Vec Ideal S1024x4096 .bf16) (wo : Vec Ideal S4096x1024 .bf16)
    (k v : Vec Ideal S1x2048x32x128 .bf16) : FVec Ideal S1x2048x1024 .f32 :=
  Host.dotGeneral dot_S1x2048x4096_S4096x1024_S1x2048x1024_2_0_01_1_n_n none
    (shapeCast S1x2048x4096 (attended (queries x wq) k v) shapeCasts_S1x2048x32x128_S1x2048x4096)
    (extf .f32 wo bitsLt_bf16_f32 : FVec Ideal S4096x1024 .f32)

theorem run_result (m : (ℓ : Loc nD τ sig) → Buf (Elt Ideal) ℓ) (c : Dev nD) :
    Value.res_out0 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_out0 Value.res_main_v65
  rfl

theorem negative_infinity : Ideal.ofBits .f32 0xFF800000#32 = ⊥ := by
  simp [Ideal.ofBits, Ideal.ieee]

theorem head_size : Ideal.ofBits .f32 0x43000000#32 = ((128 : ℝ) : EReal) := by
  simp [Ideal.ofBits, Ideal.ieee]
  rw [← EReal.coe_mul]
  norm_num

theorem queries_apply (x : FVec Ideal S1x2048x1024 .bf16) (wq : FVec Ideal S1024x4096 .bf16) (i : Fin 2048) (h : Fin 32) (t : Fin 128) :
    queries x wq (ix4 0 i h t) = ∑ e : Fin 1024, x (ix3 0 i e) * wq (ix2 e ⟨h.val * 128 + t.val, by omega⟩) := by
  pointwise [queries]

theorem lower_apply (a : Vec Ideal S1x2048x32x128 .bf16) (j : Fin 1024) (h : Fin 32) (d : Fin 128) :
    lower a (ix4 0 j h d) = a (ix4 0 ⟨j.val, by omega⟩ h d) := by
  pointwise [lower]

theorem upper_apply (a : Vec Ideal S1x2048x32x128 .bf16) (j : Fin 1024) (h : Fin 32) (d : Fin 128) :
    upper a (ix4 0 j h d) = a (ix4 0 ⟨1024 + j.val, by omega⟩ h d) := by
  pointwise [upper]

theorem scores_apply (q : FVec Ideal S1x2048x32x128 .bf16) (k : Half) (h : Fin 32) (i : Fin 2048) (j : Fin 1024) :
    scores q k (ix4 0 h i j) = Ideal.div (∑ d : Fin 128, q (ix4 0 i h d) * k (ix4 0 j h d)) (Ideal.sqrt (Ideal.ofBits .f32 0x43000000#32)) := by
  pointwise [scores]

theorem reduce_scores (f : EReal → EReal → EReal) [Std.Commutative f] [Std.Associative f] (s : Scores) (init : FVec Ideal S_ .f32)
    (h : Fin 32) (i : Fin 2048) :
    Host.reduce f s init reducesTo_S1x32x2048x1024_S1x32x2048_d3 h_S_ (ix3 0 h i) =
      (Finset.univ : Finset (Fin 1024)).fold f (init (Shape.Idx.first h_S_)) fun j => s (ix4 0 h i j) :=
  reduce_last f s init reducesTo_S1x32x2048x1024_S1x32x2048_d3 h_S_ 0 h i

theorem rowMax_apply (s : Scores) (h : Fin 32) (i : Fin 2048) :
    rowMax s (ix3 0 h i) =
      (Finset.univ : Finset (Fin 1024)).fold max (constant (F := Ideal) S_ .f32 0xFF800000#32 (Shape.Idx.first h_S_)) fun j => s (ix4 0 h i j) :=
  reduce_scores max s (constant (F := Ideal) S_ .f32 0xFF800000#32) h i

theorem bottom (i : S_.Idx) : constant (F := Ideal) S_ .f32 0xFF800000#32 i = (⊥ : EReal) := negative_infinity

theorem max_apply (mx : Rows) (r : FVec Ideal S1x32x2048 .f32) (h : Fin 32) (i : Fin 2048) :
    maximumf mx (broadcastInDim S1x32x2048x1 ![0, 1, 2] bcast_S1x32x2048_S1x32x2048x1_0_1_2 r) (ix4 0 h i 0) =
      max (mx (ix4 0 h i 0)) (r (ix3 0 h i)) := by
  pointwise []

theorem newMax_apply (mx : Rows) (s : Scores) (h : Fin 32) (i : Fin 2048) :
    newMax mx s (ix4 0 h i 0) = max (mx (ix4 0 h i 0)) (rowMax s (ix3 0 h i)) := by
  exact max_apply mx (rowMax s) h i

/-- The largest of real scores is real. -/
theorem rowMax_real (s : Scores) (h : Fin 32) (i : Fin 2048) (σ : Fin 1024 → ℝ) (hs : ∀ j, s (ix4 0 h i j) = (σ j : EReal)) :
    ∃ μ : ℝ, rowMax s (ix3 0 h i) = (μ : EReal) := by
  have hf : ∀ t : Finset (Fin 1024), t.Nonempty → ∃ μ : ℝ, t.fold max (⊥ : EReal) (fun j => (σ j : EReal)) = (μ : EReal) := by
    intro t ht
    induction ht using Finset.Nonempty.cons_induction with
    | singleton a => exact ⟨σ a, by simp⟩
    | cons a t ha ht ih =>
      obtain ⟨μ, hμ⟩ := ih
      exact ⟨max (σ a) μ, by rw [Finset.fold_cons, hμ]; exact (EReal.coe_strictMono.monotone.map_max).symm⟩
  obtain ⟨μ, hμ⟩ := hf Finset.univ ⟨0, Finset.mem_univ _⟩
  refine ⟨μ, ?_⟩
  rw [rowMax_apply, bottom, ← hμ]
  simp only [hs]

theorem weights_apply (mx : Rows) (s : Scores) (h : Fin 32) (i : Fin 2048) (j : Fin 1024) :
    weights mx s (ix4 0 h i j) = Ideal.exp (s (ix4 0 h i j) - newMax mx s (ix4 0 h i 0)) := by
  pointwise [weights]

theorem newSum_apply (mx l : Rows) (s : Scores) (h : Fin 32) (i : Fin 2048) :
    newSum mx l s (ix4 0 h i 0) = l (ix4 0 h i 0) * Ideal.exp (mx (ix4 0 h i 0) - newMax mx s (ix4 0 h i 0)) + ∑ j : Fin 1024, weights mx s (ix4 0 h i j) := by
  pointwise [newSum, shrink]

theorem newOut_apply (mx : Rows) (o : Heads) (s : Scores) (v : Half) (h : Fin 32) (i : Fin 2048) (t : Fin 128) :
    newOut mx o s v (ix4 0 i h t) = o (ix4 0 i h t) * Ideal.exp (mx (ix4 0 h i 0) - newMax mx s (ix4 0 h i 0)) + ∑ j : Fin 1024, v (ix4 0 j h t) * weights mx s (ix4 0 h i j) := by
  pointwise [newOut, shrink, lanes]

theorem start_apply (h : Fin 32) (i : Fin 2048) (t : Fin 128) :
    startMax (ix4 0 h i 0) = ⊥ ∧ startSum (ix4 0 h i 0) = 0 ∧ startOut (ix4 0 i h t) = 0 := by
  refine ⟨?_, ?_, ?_⟩
  · pointwise [startMax]
    exact negative_infinity
  · pointwise [startSum]
  · pointwise [startOut]

theorem attended_apply (q : FVec Ideal S1x2048x32x128 .bf16) (k v : Vec Ideal S1x2048x32x128 .bf16) (h : Fin 32) (i : Fin 2048) (t : Fin 128) :
    attended q k v (ix4 0 i h t) =
      Ideal.div
        (newOut (newMax startMax (scores q (lower k))) (newOut startMax startOut (scores q (lower k)) (lower v)) (scores q (upper k)) (upper v) (ix4 0 i h t))
        (newSum (newMax startMax (scores q (lower k))) (newSum startMax startSum (scores q (lower k))) (scores q (upper k)) (ix4 0 h i 0)) := by
  pointwise [attended, lanes]

theorem result_apply (x : FVec Ideal S1x2048x1024 .bf16) (wq : FVec Ideal S1024x4096 .bf16) (wo : FVec Ideal S4096x1024 .bf16)
    (k v : Vec Ideal S1x2048x32x128 .bf16) (i : Fin 2048) (n : Fin 1024) :
    result x wq wo k v (ix3 0 i n) = ∑ f : Fin 4096, attended (queries x wq) k v (ix4 0 i ⟨f.val / 128, by omega⟩ ⟨f.val % 128, by omega⟩) * wo (ix2 f n) := by
  pointwise [result]

end Cert.RefModel
end
-- ==== Proof.Softmax.lean ====
/-
  A softmax average taken in two halves with a running maximum equals the average taken at once. The scores are real; the
  values averaged may be infinite.
-/
module

public import Idealize.ShloMosaic.Lib.Pointwise
public import Idealize.ShloMosaic.Lib.IdealHost

@[expose] public section

noncomputable section

namespace Cert.Softmax

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals is real. -/
theorem sum_mul_coe {n : Nat} (a b : Fin n → EReal) (α β : Fin n → ℝ) (ha : ∀ i, a i = (α i : EReal)) (hb : ∀ i, b i = (β i : EReal)) :
    ∑ i, a i * b i = ((∑ i, α i * β i : ℝ) : EReal) := by
  rw [coe_sum]
  exact Finset.sum_congr rfl fun i _ => by rw [ha, hb, EReal.coe_mul]

/-- A nonnegative real factor distributes over a sum. -/
theorem mul_sum {ι : Type} (s : Finset ι) (c : ℝ) (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

/-- A positive real factor of both sides of a quotient cancels. -/
theorem div_cancel (c : ℝ) (hc : 0 < c) (o : EReal) (l : ℝ) (hl : 0 < l) : Ideal.div ((c : EReal) * o) ((c : EReal) * (l : EReal)) = Ideal.div o (l : EReal) := by
  rw [← EReal.coe_mul, Ideal.div_coe (mul_pos hc hl).ne', Ideal.div_coe hl.ne', mul_comm (c : EReal) o, mul_assoc, ← EReal.coe_mul]
  congr 2
  field_simp

variable {n : Nat}

/-- What the second of two halves makes of a weighted sum: the sum of both halves, scaled to the last maximum. -/
theorem two_halves (σ σ' : Fin n → ℝ) (V V' : Fin n → EReal) (μ μ' : ℝ) :
    (0 * Ideal.exp (⊥ - (μ : EReal)) + ∑ j, V j * Ideal.exp ((σ j : EReal) - (μ : EReal))) * Ideal.exp ((μ : EReal) - (μ' : EReal))
        + ∑ j, V' j * Ideal.exp ((σ' j : EReal) - (μ' : EReal))
      = ((Real.exp (-μ') : ℝ) : EReal) * (∑ j, ((Real.exp (σ j) : ℝ) : EReal) * V j + ∑ j, ((Real.exp (σ' j) : ℝ) : EReal) * V' j) := by
  have hexp (a b : ℝ) : Ideal.exp ((a : EReal) - (b : EReal)) = ((Real.exp (a - b) : ℝ) : EReal) := by rw [← EReal.coe_sub, Ideal.exp_coe]
  have hp (a : ℝ) : 0 ≤ Real.exp a := (Real.exp_pos a).le
  simp only [hexp, zero_mul, zero_add]
  rw [EReal.left_distrib_of_nonneg_of_ne_top (by exact_mod_cast hp _) (EReal.coe_ne_top _), mul_comm (∑ j, _) _,
    mul_sum _ _ (hp _), mul_sum _ _ (hp _), mul_sum _ _ (hp _)]
  congr 1
  · refine Finset.sum_congr rfl fun j _ => ?_
    rw [mul_comm (V j), ← mul_assoc, ← mul_assoc, ← EReal.coe_mul, ← EReal.coe_mul, ← Real.exp_add, ← Real.exp_add]
    congr 3; ring
  · refine Finset.sum_congr rfl fun j _ => ?_
    rw [mul_comm (V' j), ← mul_assoc, ← EReal.coe_mul, ← Real.exp_add]
    congr 3; ring

/-- The running average of two halves is the average of both. -/
theorem average (σ σ' : Fin n → ℝ) (V V' : Fin n → EReal) (μ μ' : ℝ) (hn : 0 < n) :
    Ideal.div
        ((0 * Ideal.exp (⊥ - (μ : EReal)) + ∑ j, V j * Ideal.exp ((σ j : EReal) - (μ : EReal))) * Ideal.exp ((μ : EReal) - (μ' : EReal))
          + ∑ j, V' j * Ideal.exp ((σ' j : EReal) - (μ' : EReal)))
        ((0 * Ideal.exp (⊥ - (μ : EReal)) + ∑ j, Ideal.exp ((σ j : EReal) - (μ : EReal))) * Ideal.exp ((μ : EReal) - (μ' : EReal))
          + ∑ j, Ideal.exp ((σ' j : EReal) - (μ' : EReal)))
      = Ideal.div (∑ j, ((Real.exp (σ j) : ℝ) : EReal) * V j + ∑ j, ((Real.exp (σ' j) : ℝ) : EReal) * V' j)
          (∑ j, ((Real.exp (σ j) : ℝ) : EReal) + ∑ j, ((Real.exp (σ' j) : ℝ) : EReal)) := by
  have h1 := two_halves σ σ' (fun _ => 1) (fun _ => 1) μ μ'
  simp only [one_mul, mul_one] at h1
  rw [two_halves, h1, ← coe_sum, ← coe_sum, ← EReal.coe_add]
  haveI : Nonempty (Fin n) := ⟨⟨0, hn⟩⟩
  exact div_cancel _ (Real.exp_pos _) _ _
    (add_pos (Finset.sum_pos (fun _ _ => Real.exp_pos _) Finset.univ_nonempty) (Finset.sum_pos (fun _ _ => Real.exp_pos _) Finset.univ_nonempty))

/-- A base-two exponential of a score carrying the factor `1 / (√128 · log 2)` is the exponential of the score over `√128`. -/
theorem exp2_scaled (y : ℝ) : Ideal.exp2 ((y * ((Real.sqrt 128) * (Real.log 2))⁻¹ : ℝ) : EReal) = ((Real.exp (y / Real.sqrt 128) : ℝ) : EReal) := by
  have h2 : Real.log 2 ≠ 0 := (Real.log_pos (by norm_num)).ne'
  have hs : Real.sqrt 128 ≠ 0 := (Real.sqrt_pos.mpr (by norm_num)).ne'
  rw [Ideal.exp2_coe]
  congr 1
  rw [Real.rpow_eq_pow]
  rw [Real.rpow_def_of_pos (by norm_num)]
  congr 1
  field_simp

end Cert.Softmax
end
-- ==== Proof.RefHead.lean ====
/-
  The reference's attention of a row and head whose scores are real: the softmax average over all the keys.
-/
module

public import proofs.«01_k».proof.Proof.RefValue
public import proofs.«01_k».proof.Proof.Softmax

@[expose] public section

set_option maxRecDepth 16384

noncomputable section

namespace Cert.RefModel

open Cert.ReferenceIdeal Cert.ReferenceIdeal.Gen
open Idealize.ShloMosaic Idealize.ShloMosaic.TcCoe

theorem sum_halves {M : Type} [AddCommMonoid M] (f : Fin 2048 → M) :
    ∑ j : Fin 2048, f j = ∑ j : Fin 1024, f ⟨j.val, by omega⟩ + ∑ j : Fin 1024, f ⟨1024 + j.val, by omega⟩ :=
  Fin.sum_univ_add (a := 1024) (b := 1024) f

/-- The running maximum of real scores is real, from a start that is real or bottom. -/
theorem newMax_real (mx : Rows) (s : Scores) (h : Fin 32) (i : Fin 2048) (σ : Fin 1024 → ℝ) (hs : ∀ j, s (ix4 0 h i j) = (σ j : EReal))
    (hm : mx (ix4 0 h i 0) = ⊥ ∨ ∃ μ : ℝ, mx (ix4 0 h i 0) = (μ : EReal)) : ∃ μ : ℝ, newMax mx s (ix4 0 h i 0) = (μ : EReal) := by
  obtain ⟨ν, hν⟩ := rowMax_real s h i σ hs
  rw [newMax_apply, hν]
  rcases hm with hm | ⟨μ, hm⟩ <;> rw [hm]
  · exact ⟨ν, by simp⟩
  · exact ⟨max μ ν, (EReal.coe_strictMono.monotone.map_max).symm⟩

theorem attended_real (q : FVec Ideal S1x2048x32x128 .bf16) (k v : Vec Ideal S1x2048x32x128 .bf16) (h : Fin 32) (i : Fin 2048) (t : Fin 128)
    (σ : Fin 2048 → ℝ)
    (hσ : ∀ j : Fin 2048, Ideal.div (∑ d : Fin 128, q (ix4 0 i h d) * k (ix4 0 j h d)) (Ideal.sqrt (Ideal.ofBits .f32 0x43000000#32)) = (σ j : EReal)) :
    attended q k v (ix4 0 i h t) =
      Ideal.div (∑ j : Fin 2048, ((Real.exp (σ j) : ℝ) : EReal) * v (ix4 0 j h t)) (∑ j : Fin 2048, ((Real.exp (σ j) : ℝ) : EReal)) := by
  obtain ⟨hm0, hl0, ho0⟩ := start_apply h i t
  have hs : ∀ j : Fin 1024, scores q (lower k) (ix4 0 h i j) = (σ ⟨j.val, by omega⟩ : EReal) := fun j => by
    rw [scores_apply, ← hσ]
    simp only [lower_apply]
  have hs' : ∀ j : Fin 1024, scores q (upper k) (ix4 0 h i j) = (σ ⟨1024 + j.val, by omega⟩ : EReal) := fun j => by
    rw [scores_apply, ← hσ]
    simp only [upper_apply]
  obtain ⟨μ, hμ⟩ := newMax_real startMax (scores q (lower k)) h i _ hs (.inl hm0)
  obtain ⟨μ', hμ'⟩ := newMax_real (newMax startMax (scores q (lower k))) (scores q (upper k)) h i _ hs' (.inr ⟨μ, hμ⟩)
  rw [attended_apply, newOut_apply, newSum_apply, newOut_apply, newSum_apply]
  simp only [weights_apply, hm0, hl0, ho0, hμ, hμ', hs, hs', lower_apply, upper_apply]
  rw [Softmax.average _ _ _ _ _ _ (by norm_num), sum_halves (fun j => ((Real.exp (σ j) : ℝ) : EReal) * v (ix4 0 j h t)), sum_halves (fun j => ((Real.exp (σ j) : ℝ) : EReal))]

end Cert.RefModel
end
-- ==== Proof.Average.lean ====
/-
  A device's attention of its rows and heads equals the reference's attention of the same rows and heads, when the rows, the
  query weights and the keys are real.
-/
module

public import proofs.«01_k».proof.Proof.KernelValue
public import proofs.«01_k».proof.Proof.RefHead

@[expose] public section

set_option maxRecDepth 16384

noncomputable section

namespace Cert.Average

open Idealize.ShloMosaic Idealize.ShloMosaic.TcCoe Cert.Softmax

/-- The reference's score: a real product over the root of the head size. -/
theorem scaled (y : ℝ) : Ideal.div (y : EReal) (Ideal.sqrt (Ideal.ofBits .f32 0x43000000#32)) = ((y / Real.sqrt 128 : ℝ) : EReal) := by
  rw [RefModel.head_size, Ideal.sqrt_coe, if_neg (by norm_num), Ideal.div_coe (Real.sqrt_pos.mpr (by norm_num)).ne', ← EReal.coe_mul,
    mul_one_div]

section OneHead

variable (x : FVec Ideal KernelIdeal.S512x1024 .bf16) (wq : FVec Ideal KernelIdeal.S1024x1024 .bf16) (k v : FVec Ideal KernelIdeal.S8x2048x128 .bf16)
variable (X : FVec Ideal ReferenceIdeal.S1x2048x1024 .bf16) (Wq : FVec Ideal ReferenceIdeal.S1024x4096 .bf16)
variable (K V : FVec Ideal ReferenceIdeal.S1x2048x32x128 .bf16)
variable (r : Fin 512) (i : Fin 2048) (h : Fin 8) (H : Fin 32)
variable (ξ : Fin 1024 → ℝ) (ω : Fin 1024 → Fin 128 → ℝ) (κ : Fin 2048 → Fin 128 → ℝ)

/-- The product of the row's query and a key, before scaling. -/
def dots (j : Fin 2048) : ℝ := ∑ t : Fin 128, (∑ e : Fin 1024, ξ e * ω e t) * κ j t

theorem kernel_weight (hx : ∀ e, x (ix2 r e) = (ξ e : EReal)) (hw : ∀ e (t : Fin 128), wq (ix2 e ⟨128 * h.val + t.val, by omega⟩) = (ω e t : EReal))
    (hk : ∀ j t, k (ix3 h j t) = (κ j t : EReal)) (j : Fin 2048) :
    Ideal.exp2 (Model.score (Model.query (F := Ideal) x wq) k h r j) = ((Real.exp (dots ξ ω κ j / Real.sqrt 128) : ℝ) : EReal) := by
  have hq (t : Fin 128) : Model.query (F := Ideal) x wq (ix2 r ⟨128 * h.val + t.val, by omega⟩)
      = (((∑ e : Fin 1024, ξ e * ω e t) * ((Real.sqrt 128) * (Real.log 2))⁻¹ : ℝ) : EReal) := by
    rw [Model.query_apply, sum_mul_coe _ _ ξ (fun e => ω e t) hx (fun e => hw e t), Model.scale, ← EReal.coe_mul]
  rw [← exp2_scaled, Model.score, sum_mul_coe _ _ _ (fun t => κ j t) hq (hk j)]
  congr 2
  rw [dots, Finset.sum_mul]
  exact Finset.sum_congr rfl fun t _ => by ring

theorem reference_score (hX : ∀ e, X (ix3 0 i e) = (ξ e : EReal)) (hW : ∀ e (t : Fin 128), Wq (ix2 e ⟨H.val * 128 + t.val, by omega⟩) = (ω e t : EReal))
    (hK : ∀ j t, K (ix4 0 j H t) = (κ j t : EReal)) (j : Fin 2048) :
    Ideal.div (∑ t : Fin 128, RefModel.queries X Wq (ix4 0 i H t) * K (ix4 0 j H t)) (Ideal.sqrt (Ideal.ofBits .f32 0x43000000#32))
      = ((dots ξ ω κ j / Real.sqrt 128 : ℝ) : EReal) := by
  have hq (t : Fin 128) : RefModel.queries X Wq (ix4 0 i H t) = ((∑ e : Fin 1024, ξ e * ω e t : ℝ) : EReal) := by
    rw [RefModel.queries_apply, sum_mul_coe _ _ ξ (fun e => ω e t) hX (fun e => hW e t)]
  rw [sum_mul_coe _ _ _ (fun t => κ j t) hq (hK j), scaled]
  rfl

/-- The two attentions of one row and head agree. -/
theorem head_eq (hx : ∀ e, x (ix2 r e) = (ξ e : EReal)) (hw : ∀ e (t : Fin 128), wq (ix2 e ⟨128 * h.val + t.val, by omega⟩) = (ω e t : EReal))
    (hk : ∀ j t, k (ix3 h j t) = (κ j t : EReal)) (hX : ∀ e, X (ix3 0 i e) = (ξ e : EReal))
    (hW : ∀ e (t : Fin 128), Wq (ix2 e ⟨H.val * 128 + t.val, by omega⟩) = (ω e t : EReal)) (hK : ∀ j t, K (ix4 0 j H t) = (κ j t : EReal))
    (hv : ∀ j t, v (ix3 h j t) = V (ix4 0 j H t)) (t : Fin 128) :
    Model.head (F := Ideal) (Model.query x wq) k v h (ix2 r t) = RefModel.attended (RefModel.queries X Wq) K V (ix4 0 i H t) := by
  rw [Model.head_apply, RefModel.attended_real _ K V H i t _ (reference_score X Wq K i H ξ ω κ hX hW hK)]
  simp only [kernel_weight x wq k r h ξ ω κ hx hw hk, hv]

end OneHead

/-- A sum over the 4096 lanes, device by device and head by head. -/
theorem sum_all {M : Type} [AddCommMonoid M] (f : Fin 4096 → M) :
    ∑ i : Fin 4096, f i = ∑ d : Fin 4, ∑ h : Fin 8, ∑ t : Fin 128, f ⟨1024 * d.val + (128 * h.val + t.val), by omega⟩ := by
  have h1 : ∑ i : Fin 4096, f i = ∑ d : Fin 4, ∑ l : Fin 1024, f ⟨1024 * d.val + l.val, by omega⟩ := by
    rw [← Fintype.sum_prod_type' (f := fun (d : Fin 4) (l : Fin 1024) => f ⟨1024 * d.val + l.val, by omega⟩)]
    refine (Fintype.sum_equiv (finProdFinEquiv (m := 4) (n := 1024)) _ _ fun p => congrArg f (Fin.ext ?_)).symm
    show 1024 * p.1.val + p.2.val = p.2.val + 1024 * p.1.val
    omega
  rw [h1]
  exact Finset.sum_congr rfl fun d _ => Model.sum_lanes _

end Cert.Average
end
-- ==== Proof.Total.lean ====
/-
  The four contributions a device adds up are the reference's sum over all the lanes, for the device's rows.
-/
module

public import proofs.«01_k».proof.Proof.Proto
public import proofs.«01_k».proof.Proof.Average

@[expose] public section

set_option maxRecDepth 16384

noncomputable section

namespace Cert.Exchange

open Cert.KernelIdeal Cert.KernelIdeal.Gen Cert.Model
open Idealize.ShloMosaic Idealize.ShloMosaic.TcCoe

theorem sent_apply (x : FVec Ideal S512x1024 .bf16) (wq wo : FVec Ideal S1024x1024 .bf16) (k v : FVec Ideal S8x2048x128 .bf16) :
    sent (F := Ideal) x wq k v wo = partialOut (F := Ideal) x wq k v wo := rfl

theorem total_apply (own p0 p1 p2 : FVec Ideal S512x1024 .f32) (r : Fin 512) (n : Fin 1024) :
    total (F := Ideal) own p0 p1 p2 (ix2 r n) = own (ix2 r n) + p0 (ix2 r n) + p1 (ix2 r n) + p2 (ix2 r n) := by
  pointwise [total]

/-- A device and the three behind it are all four. -/
theorem sum_devices {M : Type} [AddCommMonoid M] (f : Dev nD → M) (c : Dev nD) :
    f c + f (un 0 c) + f (un 1 c) + f (un 2 c) = ∑ d : Fin 4, f d := by
  have h : ∀ c : Dev nD, ({c} ∪ {un 0 c} ∪ {un 1 c} ∪ {un 2 c} : Finset (Fin 4)) = Finset.univ ∧
      c ≠ un 0 c ∧ c ≠ un 1 c ∧ c ≠ un 2 c ∧ un 0 c ≠ un 1 c ∧ un 0 c ≠ un 2 c ∧ un 1 c ≠ un 2 c := by decide
  obtain ⟨hu, h1, h2, h3, h4, h5, h6⟩ := h c
  rw [← hu, Finset.sum_union, Finset.sum_union, Finset.sum_union, Finset.sum_singleton, Finset.sum_singleton, Finset.sum_singleton,
    Finset.sum_singleton] <;> simp [*, Ne.symm, eq_comm]

variable (I : Blocks Ideal)
variable (X : FVec Ideal ReferenceIdeal.S1x2048x1024 .bf16) (Wq : FVec Ideal ReferenceIdeal.S1024x4096 .bf16)
variable (Wo : FVec Ideal ReferenceIdeal.S4096x1024 .bf16) (K V : FVec Ideal ReferenceIdeal.S1x2048x32x128 .bf16)

/-- What every device holds of the whole arrays. -/
structure Parts : Prop where
  x : ∀ (c : Fin 4) (r : Fin 512) (e : Fin 1024), I.x c (ix2 r e) = X (ix3 0 ⟨512 * c.val + r.val, by omega⟩ e)
  wq : ∀ (c : Fin 4) (e f : Fin 1024), I.wq c (ix2 e f) = Wq (ix2 e ⟨1024 * c.val + f.val, by omega⟩)
  wo : ∀ (c : Fin 4) (f n : Fin 1024), I.wo c (ix2 f n) = Wo (ix2 ⟨1024 * c.val + f.val, by omega⟩ n)
  k : ∀ (c : Fin 4) (h : Fin 8) (j : Fin 2048) (t : Fin 128), I.k c (ix3 h j t) = K (ix4 0 j ⟨8 * c.val + h.val, by omega⟩ t)
  v : ∀ (c : Fin 4) (h : Fin 8) (j : Fin 2048) (t : Fin 128), I.v c (ix3 h j t) = V (ix4 0 j ⟨8 * c.val + h.val, by omega⟩ t)

variable {I X Wq Wo K V}

/-- The contribution of device `d`'s heads to device `c`'s rows. -/
theorem part_apply (H : Parts I X Wq Wo K V) (hX : ∀ i e, ∃ x : ℝ, X (ix3 0 i e) = (x : EReal)) (hW : ∀ e f, ∃ x : ℝ, Wq (ix2 e f) = (x : EReal))
    (hK : ∀ j h t, ∃ x : ℝ, K (ix4 0 j h t) = (x : EReal)) (d c : Fin 4) (r : Fin 512) (n : Fin 1024) :
    own I d c (ix2 r n) = ∑ h : Fin 8, ∑ t : Fin 128,
      RefModel.attended (RefModel.queries X Wq) K V (ix4 0 ⟨512 * c.val + r.val, by omega⟩ ⟨8 * d.val + h.val, by omega⟩ t)
        * Wo (ix2 ⟨1024 * d.val + (128 * h.val + t.val), by omega⟩ n) := by
  choose ξ hξ using hX
  choose ω hω using hW
  choose κ hκ using hK
  rw [own, partialOut_apply]
  refine Finset.sum_congr rfl fun h _ => Finset.sum_congr rfl fun t _ => ?_
  rw [H.wo, Average.head_eq (I.x c) (I.wq d) (I.k d) (I.v d) X Wq K V r ⟨512 * c.val + r.val, by omega⟩ h ⟨8 * d.val + h.val, by omega⟩
    (ξ ⟨512 * c.val + r.val, by omega⟩) (fun e t => ω e ⟨1024 * d.val + (128 * h.val + t.val), by omega⟩)
    (fun j t => κ j ⟨8 * d.val + h.val, by omega⟩ t) (fun e => by rw [H.x, hξ]) (fun e t => by rw [H.wq, hω]) (fun j t => by rw [H.k, hκ])
    (fun e => hξ _ e) (fun e t => by rw [← hω]; congr 2; apply Fin.ext; show (8 * d.val + h.val) * 128 + t.val = 1024 * d.val + (128 * h.val + t.val); omega)
    (fun j t => hκ j _ t) (fun j t => H.v d h j t)]

theorem result_eq (H : Parts I X Wq Wo K V) (hX : ∀ i e, ∃ x : ℝ, X (ix3 0 i e) = (x : EReal)) (hW : ∀ e f, ∃ x : ℝ, Wq (ix2 e f) = (x : EReal))
    (hK : ∀ j h t, ∃ x : ℝ, K (ix4 0 j h t) = (x : EReal)) (c : Fin 4) (r : Fin 512) (n : Fin 1024) :
    result I c (ix2 r n) = RefModel.result X Wq Wo K V (ix3 0 ⟨512 * c.val + r.val, by omega⟩ n) := by
  have hg (d : Dev nD) : give I d c = own I d c := rfl
  rw [result, hg, hg, hg, total_apply, sum_devices (fun d => own I d c (ix2 r n)) c, RefModel.result_apply, Average.sum_all]
  refine Finset.sum_congr rfl fun d _ => (part_apply H hX hW hK d c r n).trans ?_
  refine Finset.sum_congr rfl fun h _ => Finset.sum_congr rfl fun t _ => ?_
  congr 2
  congr 1 <;> apply Fin.ext
  · show 8 * d.val + h.val = (1024 * d.val + (128 * h.val + t.val)) / 128
    omega
  · show t.val = (1024 * d.val + (128 * h.val + t.val)) % 128
    omega

end Cert.Exchange
end
-- ==== Proof.Algebraic.lean ====
/-
  The value claim: from real rows, query weights and keys every device ends with its rows of the reference's result.
-/
module

public import proofs.«01_k».proof.Defs
public import proofs.«01_k».proof.Proof.Frames
public import proofs.«01_k».proof.Proof.Finite
public import proofs.«01_k».proof.Proof.HostValue
public import proofs.«01_k».proof.Proof.Total
public import Idealize.ShloMosaic.Lib.LayoutAt

@[expose] public section

set_option maxRecDepth 16384

noncomputable section

namespace Cert.Algebraic

open Cert.KernelIdeal Cert.KernelIdeal.Gen Cert.Exchange
open Idealize.ShloMosaic Idealize.ShloMosaic.TcCoe Idealize.SL.Sem

theorem rows_block {φ : FTy} (c : Fin 4) (X : FVec Ideal ReferenceIdeal.S1x2048x1024 φ) (r : Fin 512) (e : Fin 1024) :
    Layout.block ⟨3, ![1, 512, 1024]⟩ ⟨3, ![1, 2048, 1024]⟩ 1 4 c X (by decide) (ix3 0 r e) = X (ix3 0 ⟨512 * c.val + r.val, by omega⟩ e) := by
  shard_ext

theorem columns_block (c : Fin 4) (W : FVec Ideal ReferenceIdeal.S1024x4096 .bf16) (e f : Fin 1024) :
    Layout.block ⟨2, ![1024, 1024]⟩ ⟨2, ![1024, 4096]⟩ 1 4 c W (by decide) (ix2 e f) = W (ix2 e ⟨1024 * c.val + f.val, by omega⟩) := by
  shard_ext

theorem lanes_block (c : Fin 4) (W : FVec Ideal ReferenceIdeal.S4096x1024 .bf16) (f n : Fin 1024) :
    Layout.block ⟨2, ![1024, 1024]⟩ ⟨2, ![4096, 1024]⟩ 0 4 c W (by decide) (ix2 f n) = W (ix2 ⟨1024 * c.val + f.val, by omega⟩ n) := by
  shard_ext

variable (m : (ℓ : Loc nD τ sig) → Buf (Elt Ideal) ℓ)

theorem rows_apply (a : FVec Ideal S1x512x1024 .bf16) (r : Fin 512) (e : Fin 1024) :
    shapeCast S512x1024 a shapeCasts_S1x512x1024_S512x1024 (ix2 r e) = a (ix3 0 r e) := by
  pointwise []

theorem out_apply (a : FVec Ideal S512x1024 .f32) (i : Fin 1) (r : Fin 512) (n : Fin 1024) :
    shapeCast S1x512x1024 a shapeCasts_S512x1024_S1x512x1024 (ix3 i r n) = a (ix2 r n) := by
  pointwise []

theorem out_value (c : Dev nD) : V3 m (outs m) c main_v21 = shapeCast S1x512x1024 (result (blocks m) c) shapeCasts_S512x1024_S1x512x1024 := by
  rw [← outs_v20 m 2 c]
  show StableHlo.after hostOps1 (V2 m (outs m) c) main_v21 = _
  after_results
  rfl

section

variable {m}
variable {X : FVec Ideal ReferenceIdeal.S1x2048x1024 .bf16} {Wq : FVec Ideal ReferenceIdeal.S1024x4096 .bf16}
variable {Wo : FVec Ideal ReferenceIdeal.S4096x1024 .bf16} {K V : FVec Ideal ReferenceIdeal.S1x2048x32x128 .bf16}

/-- Every device holds its block of the whole arrays. -/
structure Held (m : (ℓ : Loc nD τ sig) → Buf (Elt Ideal) ℓ) (X : FVec Ideal ReferenceIdeal.S1x2048x1024 .bf16)
    (Wq : FVec Ideal ReferenceIdeal.S1024x4096 .bf16) (Wo : FVec Ideal ReferenceIdeal.S4096x1024 .bf16)
    (K V : FVec Ideal ReferenceIdeal.S1x2048x32x128 .bf16) : Prop where
  x : ∀ c : Dev nD, m ((c.tc : Thread nD τ).loc main_arg0) = Layout.block ⟨3, ![1, 512, 1024]⟩ ⟨3, ![1, 2048, 1024]⟩ 1 4 c X
  wq : ∀ c : Dev nD, m ((c.tc : Thread nD τ).loc main_arg1) = Layout.block ⟨2, ![1024, 1024]⟩ ⟨2, ![1024, 4096]⟩ 1 4 c Wq
  wo : ∀ c : Dev nD, m ((c.tc : Thread nD τ).loc main_arg2) = Layout.block ⟨2, ![1024, 1024]⟩ ⟨2, ![4096, 1024]⟩ 0 4 c Wo
  k : ∀ c : Dev nD, m ((c.tc : Thread nD τ).loc main_arg3) = K
  v : ∀ c : Dev nD, m ((c.tc : Thread nD τ).loc main_arg4) = V

theorem parts (H : Held m X Wq Wo K V) : Parts (blocks m) X Wq Wo K V where
  x c r e := by
    show V1 m c main_v5 (ix2 r e) = _
    rw [rows_value, H.x]
    exact (rows_apply _ r e).trans (rows_block c X r e)
  wq c e f := by
    show V1 m c main_arg1 (ix2 e f) = _
    rw [(V1_of m c main_arg1 (by decide)).trans (H.wq c)]
    exact columns_block c Wq e f
  wo c f n := by
    show V1 m c main_arg2 (ix2 f n) = _
    rw [(V1_of m c main_arg2 (by decide)).trans (H.wo c)]
    exact lanes_block c Wo f n
  k c h j t := by
    show V1 m c main_v18 (ix3 h j t) = _
    rw [keys_value, H.k]
    exact heads_apply K c h j t
  v c h j t := by
    show V1 m c main_v19 (ix3 h j t) = _
    rw [values_value, H.v]
    exact heads_apply V c h j t

theorem rows_real (H : Held m X Wq Wo K V) (hp : Cert.Pre_KernelIdeal_scores_finite_KernelIdeal m) (i : Fin 2048) (e : Fin 1024) :
    ∃ x : ℝ, X (ix3 0 i e) = (x : EReal) := by
  obtain ⟨x, hx⟩ := Finite.rows_real _ _ _ _ _ (hp ⟨i.val / 512, by show _ < 4; omega⟩).1 ⟨i.val % 512, by omega⟩ e
  refine ⟨x, ?_⟩
  rw [← hx, H.x, rows_block]
  congr 2
  apply Fin.ext
  show i.val = 512 * (i.val / 512) + i.val % 512
  omega

theorem weights_real (H : Held m X Wq Wo K V) (hp : Cert.Pre_KernelIdeal_scores_finite_KernelIdeal m) (e : Fin 1024) (f : Fin 4096) :
    ∃ x : ℝ, Wq (ix2 e f) = (x : EReal) := by
  obtain ⟨x, hx⟩ := Finite.weights_real _ _ _ _ _ (hp ⟨f.val / 1024, by show _ < 4; omega⟩).2.1 e ⟨f.val % 1024, by omega⟩
  refine ⟨x, ?_⟩
  rw [← hx, H.wq, columns_block]
  congr 2
  apply Fin.ext
  show f.val = 1024 * (f.val / 1024) + f.val % 1024
  omega

theorem keys_real (H : Held m X Wq Wo K V) (hp : Cert.Pre_KernelIdeal_scores_finite_KernelIdeal m) (j : Fin 2048) (h : Fin 32) (t : Fin 128) :
    ∃ x : ℝ, K (ix4 0 j h t) = (x : EReal) := by
  obtain ⟨x, hx⟩ := Finite.keys_real _ _ _ _ _ (hp 0).2.2 j h t
  exact ⟨x, by rw [← hx, H.k]⟩

/-- Every device's result is its rows of the reference's. -/
theorem out_block (H : Held m X Wq Wo K V) (hp : Cert.Pre_KernelIdeal_scores_finite_KernelIdeal m) (c : Dev nD) :
    V3 m (outs m) c main_v21 = Layout.block ⟨3, ![1, 512, 1024]⟩ ⟨3, ![1, 2048, 1024]⟩ 1 4 c (RefModel.result X Wq Wo K V) := by
  rw [out_value]
  funext i
  obtain ⟨a, r, n, rfl⟩ : ∃ (a : Fin 1) (r : Fin 512) (n : Fin 1024), i = ix3 a r n := ⟨i 0, i 1, i 2, ValueIdx.eq_ix3 i⟩
  obtain rfl : a = 0 := Subsingleton.elim _ _
  exact (out_apply _ 0 r n).trans ((result_eq (parts H) (rows_real H hp) (weights_real H hp) (keys_real H hp) c r n).trans (rows_block (φ := .f32) c _ r n).symm)

end

theorem algebraic : Cert.algebraic_KernelIdeal_ReferenceIdeal_pre_scores_finite_KernelIdeal := by
  intro m g m' g' hp ha
  have H : Held m _ _ _ _ _ := ⟨fun c => (ha c).1, fun c => (ha c).2.1, fun c => (ha c).2.2.1, fun c => (ha c).2.2.2.1, fun c => (ha c).2.2.2.2⟩
  refine ⟨_, (θ_run Cert.KernelIdeal.defs _ _).mono (fun r h c => ⟨(h.1 c).1.trans (out_block H hp c), (h.1 c).2⟩) (Frames.run_kernel m g),
    (θ_run Cert.ReferenceIdeal.defs _ _).mono (fun r h => ⟨(h 0).1.trans (RefModel.run_result m' 0), (h 0).2⟩)
      (Cert.ReferenceIdeal.Value.run (F := Ideal) m' g')⟩

end Cert.Algebraic
end
-- ==== Proof.lean ====
module

public import proofs.«01_k».proof.Defs
public import proofs.«01_k».proof.Proof.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Finite.facts, Cert.Finite.reference_facts,
    Cert.Frames.frame_p, Cert.Frames.frame_pi, fun m g _ => Cert.Frames.frame_pi m g trivial, Cert.Frames.frame_ri,
    fun m g _ => Cert.Frames.frame_ri m g trivial, Cert.Frames.preserves, Cert.Algebraic.algebraic⟩

end Cert.Proof

end
